-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_drawn [hPre_inputs_drawn : Cert.Pre_inputs_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_drawn [hPre_inputs_drawn : Cert.Pre_inputs_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_drawn [hKernelIdeal : Cert.KernelIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_drawn [hReferenceIdeal : Cert.ReferenceIdeal.Facts] [hPre_inputs_drawn : Cert.Pre_inputs_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_drawn [hKernelIdeal : Cert.KernelIdeal.Facts] [hReferenceIdeal : Cert.ReferenceIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_drawn : Cert.Pre_inputs_drawn.Facts),
    quiescent_Kernel (hKernel := hKernel)
    ∧ quiescent_KernelIdeal (hKernelIdeal := hKernelIdeal)
    ∧ quiescent_KernelIdeal_pre_inputs_drawn (hKernelIdeal := hKernelIdeal) (hPre_inputs_drawn := hPre_inputs_drawn)
    ∧ quiescent_ReferenceIdeal (hReferenceIdeal := hReferenceIdeal)
    ∧ quiescent_ReferenceIdeal_pre_inputs_drawn (hReferenceIdeal := hReferenceIdeal) (hPre_inputs_drawn := hPre_inputs_drawn)
    ∧ preserves_Kernel_KernelIdeal
    ∧ algebraic_KernelIdeal_ReferenceIdeal_pre_inputs_drawn (hKernelIdeal := hKernelIdeal) (hReferenceIdeal := hReferenceIdeal) (hPre_inputs_drawn := hPre_inputs_drawn)
-- ==== Pre_inputs_drawn.lean ====
abbrev S4096x128 : Shape := ⟨2, ![4096, 128]⟩
abbrev S8192 : Shape := ⟨1, ![8192]⟩
abbrev S2048x11 : Shape := ⟨2, ![2048, 11]⟩
abbrev S_ : Shape := ⟨0, ![]⟩
abbrev S8191 : Shape := ⟨1, ![8191]⟩

class Facts : Prop where
  bcast_S_S4096x128 : S_.BroadcastsInDim S4096x128 (![] : Fin 0 → Fin S4096x128.rank)
  bcast_S_S8192 : S_.BroadcastsInDim S8192 (![] : Fin 0 → Fin S8192.rank)
  slices_S8192_S8191_0 : S8192.Slices ![0] S8191
  slices_S8192_S8191_1 : S8192.Slices ![1] S8191

variable [Facts]

def fn {F : FTy → Type} [FloatOps F] (main_arg0 : FVec F S4096x128 .f32) (main_arg1 : FVec F S8192 .f32) (main_arg2 : FVec F S2048x11 .f32) (main_arg3 : IVec S8192 32) (main_arg4 : IVec S8192 32) (main_arg5 : IVec S8192 32) : IVec S4096x128 1 × IVec S8192 1 × IVec S8191 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 32 := constantI S_ 32 0#32
  let main_v3 : IVec S8192 32 := broadcastInDim S8192 ![] bcast_S_S8192 main_c
  let main_v4 : IVec S8192 1 := cmpi .sge main_arg3 main_v3
  let main_c_0 : IVec S_ 32 := constantI S_ 32 127#32
  let main_v5 : IVec S8192 32 := broadcastInDim S8192 ![] bcast_S_S8192 main_c_0
  let main_v6 : IVec S8192 1 := cmpi .sle main_arg3 main_v5
  let main_v7 : IVec S8192 1 := andi main_v4 main_v6
  let main_v8 : IVec S8191 32 := (extractStridedSlice S8191 ![0] · slices_S8192_S8191_0) main_arg5
  let main_v9 : IVec S8191 32 := (extractStridedSlice S8191 ![1] · slices_S8192_S8191_1) main_arg5
  let main_v10 : IVec S8191 1 := cmpi .sle main_v8 main_v9
  (main_v2, main_v7, main_v10)
-- ==== Kernel.lean ====
abbrev S4096x128 : Shape := ⟨2, ![4096, 128]⟩
abbrev S8192 : Shape := ⟨1, ![8192]⟩
abbrev S2048x11 : Shape := ⟨2, ![2048, 11]⟩
abbrev S8x1024 : Shape := ⟨2, ![8, 1024]⟩
abbrev S8x1 : Shape := ⟨2, ![8, 1]⟩
abbrev S8 : Shape := ⟨1, ![8]⟩
abbrev S1x8 : Shape := ⟨2, ![1, 8]⟩
abbrev S2x8 : Shape := ⟨2, ![2, 8]⟩
abbrev S8x1x1024 : Shape := ⟨3, ![8, 1, 1024]⟩
abbrev S_ : Shape := ⟨0, ![]⟩
abbrev S8192x1 : Shape := ⟨2, ![8192, 1]⟩
abbrev S4096x384 : Shape := ⟨2, ![4096, 384]⟩
abbrev S2048x16 : Shape := ⟨2, ![2048, 16]⟩
abbrev S4096x16 : Shape := ⟨2, ![4096, 16]⟩
abbrev S2048x384 : Shape := ⟨2, ![2048, 384]⟩
abbrev S1x1x1024 : Shape := ⟨3, ![1, 1, 1024]⟩
abbrev S1024x1 : Shape := ⟨2, ![1024, 1]⟩
abbrev S2048x2048 : Shape := ⟨2, ![2048, 2048]⟩
abbrev S1x1024 : Shape := ⟨2, ![1, 1024]⟩
abbrev S384x1024 : Shape := ⟨2, ![384, 1024]⟩
abbrev S2048x1024 : Shape := ⟨2, ![2048, 1024]⟩
abbrev S1x1 : Shape := ⟨2, ![1, 1]⟩
abbrev S1024x256 : Shape := ⟨2, ![1024, 256]⟩
abbrev S2048x256 : Shape := ⟨2, ![2048, 256]⟩
abbrev S2048 : Shape := ⟨1, ![2048]⟩
abbrev S2048x1 : Shape := ⟨2, ![2048, 1]⟩
abbrev S4096x10 : Shape := ⟨2, ![4096, 10]⟩

abbrev nBuf : Space → Nat
  | .hbm => 56
  | .vmem => 18
  | .smem => 1
  | _ => 0

abbrev bufTy : (tb : Table) → Fin (tcTables nBuf tb) → BufTy
  | .hbm, ⟨0, _⟩ => ⟨S4096x128, .f32⟩
  | .hbm, ⟨1, _⟩ => ⟨S8192, .f32⟩
  | .hbm, ⟨2, _⟩ => ⟨S2048x11, .f32⟩
  | .hbm, ⟨3, _⟩ => ⟨S8192, .i32⟩
  | .hbm, ⟨4, _⟩ => ⟨S8192, .i32⟩
  | .hbm, ⟨5, _⟩ => ⟨S8192, .i32⟩
  | .hbm, ⟨6, _⟩ => ⟨S8x1024, .i32⟩
  | .hbm, ⟨7, _⟩ => ⟨S8x1, .i32⟩
  | .hbm, ⟨8, _⟩ => ⟨S8, .i32⟩
  | .hbm, ⟨9, _⟩ => ⟨S8x1, .i32⟩
  | .hbm, ⟨10, _⟩ => ⟨S8, .i32⟩
  | .hbm, ⟨11, _⟩ => ⟨S1x8, .i32⟩
  | .hbm, ⟨12, _⟩ => ⟨S1x8, .i32⟩
  | .hbm, ⟨13, _⟩ => ⟨S8x1x1024, .i32⟩
  | .hbm, ⟨14, _⟩ => ⟨S8x1x1024, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8x1x1024, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8x1x1024, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8x1x1024, .f32⟩
  | .hbm, ⟨42, _⟩ => ⟨S8192x1, .i32⟩
  | .hbm, ⟨43, _⟩ => ⟨S4096x128, .bf16⟩
  | .hbm, ⟨44, _⟩ => ⟨S4096x128, .f32⟩
  | .hbm, ⟨45, _⟩ => ⟨S4096x128, .f32⟩
  | .hbm, ⟨46, _⟩ => ⟨S4096x128, .bf16⟩
  | .hbm, ⟨47, _⟩ => ⟨S4096x128, .f32⟩
  | .hbm, ⟨48, _⟩ => ⟨S4096x128, .f32⟩
  | .hbm, ⟨49, _⟩ => ⟨S4096x128, .bf16⟩
  | .hbm, ⟨50, _⟩ => ⟨S4096x384, .bf16⟩
  | .hbm, ⟨51, _⟩ => ⟨S_, .f32⟩
  | .hbm, ⟨52, _⟩ => ⟨S_, .f32⟩
  | .hbm, ⟨53, _⟩ => ⟨S2048x16, .f32⟩
  | .hbm, ⟨54, _⟩ => ⟨S4096x16, .f32⟩
  | .hbm, ⟨55, _⟩ => ⟨S4096x10, .f32⟩
  | .local _ .vmem, ⟨0, _⟩ => ⟨S2048x384, .bf16⟩
  | .local _ .vmem, ⟨1, _⟩ => ⟨S2048x384, .bf16⟩
  | .local _ .vmem, ⟨2, _⟩ => ⟨S1x1x1024, .i32⟩
  | .local _ .vmem, ⟨3, _⟩ => ⟨S1x1x1024, .i32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1, .i32⟩
  | .local _ .vmem, ⟨13, _⟩ => ⟨S1024x1, .i32⟩
  | .local _ .vmem, ⟨14, _⟩ => ⟨S2048x16, .f32⟩
  | .local _ .vmem, ⟨15, _⟩ => ⟨S2048x16, .f32⟩
  | .local _ .vmem, ⟨16, _⟩ => ⟨S2048x16, .f32⟩
  | .local _ .vmem, ⟨17, _⟩ => ⟨S2048x2048, .f32⟩
  | .local _ .smem, ⟨0, _⟩ => ⟨S2x8, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_2 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_cst_6 : Ref sig .tc := ⟨.hbm, 37, rfl⟩
abbrev main_call3_v0 : Ref sig .tc := ⟨.hbm, 38, rfl⟩
abbrev main_call3_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_call4_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0_21 : Index := 0#32
  let arg1 : BitVec 32 := BitVec.ofNat 32 (i 1).val
  let v49 : Index := Scalar.indexCast arg1
  ![0, v49.toNat]
def k0_off2 (i : grid0.Coords) : Fin 2 → Nat :=
  let c1 : Index := 1#32
  let arg1 : BitVec 32 := BitVec.ofNat 32 (i 1).val
  let v51 : Index := Scalar.indexCast arg1
  ![1, v51.toNat]
def k0_cond10 (i : grid0.Coords) : BitVec 1 :=
  let arg1 : BitVec 32 := BitVec.ofNat 32 (i 1).val
  let c7_i32 : BitVec 32 := 7#32
  let v95 : BitVec 1 := Scalar.cmpi .eq arg1 c7_i32
  let v96 : BitVec 32 := Scalar.extui v95
  let c0_i32_40 : BitVec 32 := 0#32
  let v97 : BitVec 1 := Scalar.cmpi .ne v96 c0_i32_40
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x128 : Shape := ⟨2, ![4096, 128]⟩
abbrev S8192 : Shape := ⟨1, ![8192]⟩
abbrev S2048x11 : Shape := ⟨2, ![2048, 11]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S4096x8192 : Shape := ⟨2, ![4096, 8192]⟩
abbrev S1x8192 : Shape := ⟨2, ![1, 8192]⟩
abbrev S8192x4096 : Shape := ⟨2, ![8192, 4096]⟩
abbrev S2048x4096 : Shape := ⟨2, ![2048, 4096]⟩
abbrev S4096x2048 : Shape := ⟨2, ![4096, 2048]⟩
abbrev S2048 : Shape := ⟨1, ![2048]⟩
abbrev S2048x1 : Shape := ⟨2, ![2048, 1]⟩
abbrev S2048x10 : Shape := ⟨2, ![2048, 10]⟩
abbrev S4096x10 : Shape := ⟨2, ![4096, 10]⟩
abbrev S4096 : Shape := ⟨1, ![4096]⟩
abbrev S4096x1 : Shape := ⟨2, ![4096, 1]⟩

abbrev nBuf : Space → Nat
  | .hbm => 140
  | .vmem => 0
  | .smem => 0
  | _ => 0

abbrev hbmTy0_0 (i : Nat) : BufTy := match i % 128 with
  | 0 => ⟨S4096x128, .f32⟩
  | 1 => ⟨S8192, .f32⟩
  | 2 => ⟨S2048x11, .f32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S1, .i32⟩
  | 15 => ⟨S_, .i32⟩
  | 16 => ⟨S8192x1, .i32⟩
  | 17 => ⟨S8192x1, .i1⟩
  | 18 => ⟨S1x1, .i32⟩
  | 19 => ⟨S8192x1, .i32⟩
  | 20 => ⟨S8192x1, .i1⟩
  | 21 => ⟨S8192x1, .i1⟩
  | 22 => ⟨S_, .i1⟩
  | 23 => ⟨S8192, .i1⟩
  | 24 => ⟨S4096x8192, .f32⟩
  | 25 => ⟨S4096x8192, .i1⟩
  | 26 => ⟨S_, .f32⟩
  | 27 => ⟨S4096x8192, .f32⟩
  | 28 => ⟨S4096x8192, .f32⟩
  | 29 => ⟨S1x8192, .f32⟩
  | 30 => ⟨S1x8192, .i32⟩
  | 31 => ⟨S4096x8192, .f32⟩
  | 32 => ⟨S4096x8192, .f32⟩
  | 33 => ⟨S4096x8192, .f32⟩
  | 34 => ⟨S_, .f32⟩
  | 35 => ⟨S4096x8192, .f32⟩
  | 36 => ⟨S4096x8192, .i1⟩
  | 37 => ⟨S4096x8192, .f32⟩
  | 38 => ⟨S4096x8192, .i1⟩
  | 39 => ⟨S4096x8192, .f32⟩
  | 40 => ⟨S4096x8192, .i1⟩
  | 41 => ⟨S_, .i32⟩
  | 42 => ⟨S1x8192, .i32⟩
  | 43 => ⟨S1x8192, .i1⟩
  | 44 => ⟨S_, .i32⟩
  | 45 => ⟨S1x8192, .i32⟩
  | 46 => ⟨S1x8192, .i1⟩
  | 47 => ⟨S4096x8192, .i1⟩
  | 48 => ⟨S4096x8192, .i1⟩
  | 49 => ⟨S4096x8192, .i1⟩
  | 50 => ⟨S4096x8192, .i1⟩
  | 51 => ⟨S4096x8192, .i32⟩
  | 52 => ⟨S8192x4096, .i32⟩
  | 53 => ⟨S_, .i32⟩
  | 54 => ⟨S2048x4096, .i32⟩
  | 55 => ⟨S8192x1, .i32⟩
  | 56 => ⟨S2048x4096, .i32⟩
  | 57 => ⟨S_, .i32⟩
  | 58 => ⟨S_, .i32⟩
  | 59 => ⟨S_, .i32⟩
  | 60 => ⟨S2048x4096, .i32⟩
  | 61 => ⟨S2048x4096, .i32⟩
  | 62 => ⟨S_, .i32⟩
  | 63 => ⟨S2048x4096, .i32⟩
  | 64 => ⟨S2048x4096, .i32⟩
  | 65 => ⟨S4096x2048, .i32⟩
  | 66 => ⟨S4096x2048, .f32⟩
  | 67 => ⟨S_, .f32⟩
  | 68 => ⟨S2048, .f32⟩
  | 69 => ⟨S_, .f32⟩
  | 70 => ⟨S2048, .f32⟩
  | 71 => ⟨S2048, .f32⟩
  | 72 => ⟨S2048x1, .f32⟩
  | 73 => ⟨S2048x11, .f32⟩
  | 74 => ⟨S2048x11, .f32⟩
  | 75 => ⟨S2048x11, .f32⟩
  | 76 => ⟨S_, .f32⟩
  | 77 => ⟨S2048, .f32⟩
  | 78 => ⟨S2048x1, .f32⟩
  | 79 => ⟨S2048x11, .f32⟩
  | 80 => ⟨S2048x11, .f32⟩
  | 81 => ⟨S2048x10, .f32⟩
  | 82 => ⟨S2048x1, .f32⟩
  | 83 => ⟨S2048x10, .f32⟩
  | 84 => ⟨S2048x10, .f32⟩
  | 85 => ⟨S_, .f32⟩
  | 86 => ⟨S_, .f32⟩
  | 87 => ⟨S2048x10, .f32⟩
  | 88 => ⟨S2048x10, .f32⟩
  | 89 => ⟨S2048x10, .f32⟩
  | 90 => ⟨S2048x1, .f32⟩
  | 91 => ⟨S2048, .f32⟩
  | 92 => ⟨S_, .f32⟩
  | 93 => ⟨S_, .f32⟩
  | 94 => ⟨S2048, .f32⟩
  | 95 => ⟨S2048, .f32⟩
  | 96 => ⟨S2048, .f32⟩
  | 97 => ⟨S4096x10, .f32⟩
  | 98 => ⟨S4096, .f32⟩
  | 99 => ⟨S_, .f32⟩
  | 100 => ⟨S4096, .f32⟩
  | 101 => ⟨S4096, .f32⟩
  | 102 => ⟨S4096x1, .f32⟩
  | 103 => ⟨S4096x10, .f32⟩
  | 104 => ⟨S4096x10, .f32⟩
  | 105 => ⟨S4096x10, .f32⟩
  | 106 => ⟨S4096, .f32⟩
  | 107 => ⟨S4096, .f32⟩
  | 108 => ⟨S_, .f32⟩
  | 109 => ⟨S4096, .f32⟩
  | 110 => ⟨S_, .f32⟩
  | 111 => ⟨S4096, .f32⟩
  | 112 => ⟨S4096, .f32⟩
  | 113 => ⟨S4096, .f32⟩
  | 114 => ⟨S_, .f32⟩
  | 115 => ⟨S_, .f32⟩
  | 116 => ⟨S4096, .f32⟩
  | 117 => ⟨S4096, .f32⟩
  | 118 => ⟨S4096x1, .f32⟩
  | 119 => ⟨S4096x10, .f32⟩
  | 120 => ⟨S4096x10, .f32⟩
  | 121 => ⟨S4096x1, .f32⟩
  | 122 => ⟨S4096x10, .f32⟩
  | 123 => ⟨S4096x10, .f32⟩
  | 124 => ⟨S4096, .f32⟩
  | 125 => ⟨S4096x1, .f32⟩
  | 126 => ⟨S_, .f32⟩
  | 127 => ⟨S4096x1, .f32⟩
  | _ => ⟨S4096x128, .f32⟩

abbrev hbmTy0_1 (i : Nat) : BufTy := match i % 128 with
  | 0 => ⟨S4096x1, .f32⟩
  | 1 => ⟨S4096x10, .f32⟩
  | 2 => ⟨S4096x10, .f32⟩
  | 3 => ⟨S_, .f32⟩
  | 4 => ⟨S4096, .f32⟩
  | 5 => ⟨S4096x1, .f32⟩
  | 6 => ⟨S_, .f32⟩
  | 7 => ⟨S_, .f32⟩
  | 8 => ⟨S4096x1, .f32⟩
  | 9 => ⟨S4096x1, .f32⟩
  | 10 => ⟨S4096x10, .f32⟩
  | 11 => ⟨S4096x10, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c : Ref sig .tc := ⟨.hbm, 41, rfl⟩
abbrev main_v12 : Ref sig .tc := ⟨.hbm, 42, rfl⟩
abbrev main_v13 : Ref sig .tc := ⟨.hbm, 43, rfl⟩
abbrev main_c_0 : Ref sig .tc := ⟨.hbm, 44, rfl⟩
abbrev main_v14 : Ref sig .tc := ⟨.hbm, 45, rfl⟩
abbrev main_v15 : Ref sig .tc := ⟨.hbm, 46, rfl⟩
abbrev main_call1_v0 : Ref sig .tc := ⟨.hbm, 47, rfl⟩
abbrev main_v16 : Ref sig .tc := ⟨.hbm, 48, rfl⟩
abbrev main_call2_v0 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_2 : Ref sig .tc := ⟨.hbm, 57, rfl⟩
abbrev main_c_3 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_4 : Ref sig .tc := ⟨.hbm, 67, rfl⟩
abbrev main_v26 : Ref sig .tc := ⟨.hbm, 68, rfl⟩
abbrev main_cst_5 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_6 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_7 : Ref sig .tc := ⟨.hbm, 85, rfl⟩
abbrev main_call4_v0 : Ref sig .tc := ⟨.hbm, 86, rfl⟩
abbrev main_call4_v1 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_8 : Ref sig .tc := ⟨.hbm, 92, rfl⟩
abbrev main_call5_v0 : Ref sig .tc := ⟨.hbm, 93, rfl⟩
abbrev main_call5_v1 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_9 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_10 : Ref sig .tc := ⟨.hbm, 108, rfl⟩
abbrev main_v57 : Ref sig .tc := ⟨.hbm, 109, rfl⟩
abbrev main_cst_11 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_12 : Ref sig .tc := ⟨.hbm, 114, rfl⟩
abbrev main_call6_v0 : Ref sig .tc := ⟨.hbm, 115, rfl⟩
abbrev main_call6_v1 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_13 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_14 : Ref sig .tc := ⟨.hbm, 131, rfl⟩
abbrev main_v74 : Ref sig .tc := ⟨.hbm, 132, rfl⟩
abbrev main_v75 : Ref sig .tc := ⟨.hbm, 133, rfl⟩
abbrev main_cst_15 : Ref sig .tc := ⟨.hbm, 134, rfl⟩
abbrev main_call7_v0 : Ref sig .tc := ⟨.hbm, 135, rfl⟩
abbrev main_call7_v1 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩

abbrev nD : Nat := 1
abbrev τ : Topo := Topo.v7x

variable {F : FTy → Type} [FloatOps F]
-- ==== Proof.StepI.lean ====
/-
  What one grid point of the kernel computes, as functions of what it reads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F] [Named F]

/-- Which literals (rows) belong to which of the 256 rules starting at rule `r0` (columns), as ones and zeros. -/
def indic (r0 : BitVec 32) (l : IVec S1024x1 32) : FVec F S1024x256 .bf16 :=
  truncf .bf16 (select (cmpi .eq (broadcastTo S1024x256 (shapeCast S1024x1 l shapeCasts_S1024x1_S1024x1) broadcasts_S1024x1_S1024x256)
      (addi (broadcast S1024x256 r0) (iota .tc S1024x256 32 [1] iota_S1024x256_d1_w32)))
    (broadcast S1024x256 (Scalar.ofBits .f32 0x3F800000#32 : F .f32)) (broadcast S1024x256 (Scalar.ofBits .f32 0x00000000#32 : F .f32))) bitsLt_bf16_f32

/-- What a tile of counts becomes when the missed literals of this point are added to it. -/
def tilePay (r0 : BitVec 32) (miss : FVec F S2048x1024 .bf16) (l : IVec S1024x1 32) (C : Vec F S2048x256 .f32) : Vec F S2048x256 .f32 :=
  shapeCast S2048x256 (addf C (matmul dot_S2048x1024_S1024x256_S2048x256_1_0_0_1_n_n none miss (indic r0 l) (constant S2048x256 .f32 0x00000000#32)))
    shapeCasts_S2048x256_S2048x256

/-- Whether the band `lo … hi` of rules meets the 256 rules starting at `r0` (`r1` is one past the last). -/
def tileHit (lo hi r0 r1 : BitVec 32) : BitVec 1 :=
  Scalar.cmpi .ne (Scalar.extui (Scalar.andi (Scalar.cmpi .slt lo r1) (Scalar.cmpi .sge hi r0)) : BitVec 32) 0#32

/-- The counts after the tile of rules starting at column `off` has had its turn. -/
def tileAcc (lo hi : BitVec 32) (off : ℕ) (inb : ∀ a, (![0, off] : Fin 2 → ℕ) a + S2048x256.size a ≤ S2048x2048.size a) (r0 r1 : BitVec 32)
    (miss : FVec F S2048x1024 .bf16) (l : IVec S1024x1 32) (C : Vec F S2048x2048 .f32) : Vec F S2048x2048 .f32 :=
  if tileHit lo hi r0 r1 = 1#1 then
    VecWindow.put (s := S2048x2048) C ![0, off] S2048x256.size (tilePay r0 miss l (VecWindow.window (s := S2048x2048) C ![0, off] S2048x256.size inb))
  else C

/-- Which literals (columns) each row of the batch block misses, as ones and zeros. -/
def missOf (x3 : Vec F S2048x384 .bf16) (x4 : Vec F S1x1x1024 .i32) (x5 x6 x7 x8 : Vec F S1x1x1024 .f32) : FVec F S2048x1024 .bf16 :=
  k0_pay16 (k0_pay12 x3 x4) (k0_pay13 x5) (k0_pay14 x6) (k0_pay15 x7) x8

/-- The counts after all eight tiles. -/
def tiles (lo hi : BitVec 32) (miss : FVec F S2048x1024 .bf16) (l : IVec S1024x1 32) (C : Vec F S2048x2048 .f32) : Vec F S2048x2048 .f32 :=
  tileAcc lo hi 1792 inb_S2048x2048_S2048x256_0_1792 1792#32 2048#32 miss l <|
  tileAcc lo hi 1536 inb_S2048x2048_S2048x256_0_1536 1536#32 1792#32 miss l <|
  tileAcc lo hi 1280 inb_S2048x2048_S2048x256_0_1280 1280#32 1536#32 miss l <|
  tileAcc lo hi 1024 inb_S2048x2048_S2048x256_0_1024 1024#32 1280#32 miss l <|
  tileAcc lo hi 768 inb_S2048x2048_S2048x256_0_768 768#32 1024#32 miss l <|
  tileAcc lo hi 512 inb_S2048x2048_S2048x256_0_512 512#32 768#32 miss l <|
  tileAcc lo hi 256 inb_S2048x2048_S2048x256_0_256 256#32 512#32 miss l <|
  tileAcc lo hi 0 inb_S2048x2048_S2048x256_0_0 0#32 256#32 miss l C

/-- The table's word at the offsets `off`. -/
def word (T : Vec F S2x8 .i32) (off : Fin 2 → ℕ) (inb : ∀ a, off a + S1x1.size a ≤ S2x8.size a) : BitVec 32 :=
  VecWindow.window (s := S2x8) T off S1x1.size inb (Shape.Idx.first (numel1_S1x1.symm ▸ Nat.one_pos))

/-- The counts after grid point `i`, from the counts `C` before it. -/
def step (i : grid0.Coords) (T : Vec F S2x8 .i32) (x3 : Vec F S2048x384 .bf16) (x4 : Vec F S1x1x1024 .i32) (x5 x6 x7 x8 : Vec F S1x1x1024 .f32)
    (x9 : Vec F S1024x1 .i32) (C : Vec F S2048x2048 .f32) : Vec F S2048x2048 .f32 :=
  tiles (word T (k0_off1 i) (facts₀.k0_off1_inb i)) (word T (k0_off2 i) (facts₀.k0_off2_inb i)) (missOf x3 x4 x5 x6 x7 x8)
    (shapeCast S1024x1 x9 shapeCasts_S1024x1_S1024x1)
    (if Scalar.cmpi .ne (Scalar.extui (Scalar.cmpi .eq (BitVec.ofNat 32 (i 1).val) 0#32) : BitVec 32) 0#32 = 1#1 then k0_pay11 else C)

/-- What the last point of a batch block writes, from the finished counts and the block of mass parameters. -/
def outOf (C : Vec F S2048x2048 .f32) (x10 : Vec F S2048x16 .f32) : Vec F S2048x16 .f32 :=
  k0_pay6 (k0_pay9 (k0_pay7 C) (k0_pay8 x10)) (k0_pay10 (k0_pay7 C) (k0_pay8 x10))

end Cert.KernelIdeal.Body

end
-- ==== Proof.BodyI.lean ====
/-
  What one grid point of the kernel does.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.StepI
public import Idealize.ShloMosaic.Lib.Tactic
public import Idealize.ShloMosaic.Lib.Pipeline.FrameSuffix

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f
/-- The table's buffer on core `c`, held at the body's half share. -/
abbrev ptTbl (c : Dev nD) (f : Bf (F := F) c (Memref.whole main_v7)) : sProp 𝕄 :=
  (Memref.whole main_v7).view.loc (c : Thread nD τ) ↦{fullShare.right} f

/-- The counts' scratch. -/
abbrev scr : Memref sig .tc .vmem S2048x2048 .f32 := Memref.whole cc0_scratch0
/-- The table of lowest and highest rules. -/
abbrev tbl : Memref sig .tc .smem S2x8 .i32 := Memref.whole main_v7

/-- One tile's turn, read off the buffer it leaves. -/
theorem acc_read (c : Dev nD) (lo hi : BitVec 32) (off : ℕ) (inb : ∀ a, (![0, off] : Fin 2 → ℕ) a + S2048x256.size a ≤ S2048x2048.size a) (r0 r1 : BitVec 32)
    (miss : FVec F S2048x1024 .bf16) (l : IVec S1024x1 32) (g : Bf (F := F) c scr) (C : Vec F S2048x2048 .f32) (hC : scr.view.read (Elt F) g = C)
    (cond : BitVec 1) (hc : cond = tileHit lo hi r0 r1) (w : Vec F S2048x256 .f32)
    (hw : w = tilePay r0 miss l (View.readAt (Elt F) scr.view (Rect.unit (s := S2048x2048) ![0, off] S2048x256.size inb).toLoadRect g)) :
    scr.view.read (Elt F) (if h : cond = 1#1 then scr.view.writes (Elt F) g [⟨Rect.unit (s := S2048x2048) ![0, off] S2048x256.size inb, w⟩] else g)
      = tileAcc lo hi off inb r0 r1 miss l C := by
  subst hc hw hC
  unfold tileAcc
  split_ifs with h
  · rw [View.read_writes_cons_put _ _ _ _ _ rfl]
    rfl
  · rfl

/-- The zeroing at a batch block's first point, read off the buffer it leaves. -/
theorem zero_read (c : Dev nD) (g : Bf (F := F) c scr) (cond : BitVec 1) (w : Vec F S2048x2048 .f32) (inb : ∀ a, (![0, 0] : Fin 2 → ℕ) a + S2048x2048.size a ≤ S2048x2048.size a) :
    scr.view.read (Elt F) (if h : cond = 1#1 then scr.view.writes (Elt F) g [⟨Rect.unit (s := S2048x2048) ![0, 0] S2048x2048.size inb, w⟩] else g)
      = (if cond = 1#1 then w else scr.view.read (Elt F) g : Vec F S2048x2048 .f32) := by
  split_ifs with h
  · exact View.read_writes_full _ _ _ _ _
  · rfl

/-- The output window, read off the buffer the last conditional leaves. -/
theorem out_read (c : Dev nD) (M : Memref sig .tc .vmem S2048x16 .f32) (g : Bf (F := F) c M) (cond : BitVec 1) (w w' : Vec F S2048x16 .f32) (hw : w = w')
    (inb : ∀ a, (![0, 0] : Fin 2 → ℕ) a + S2048x16.size a ≤ S2048x16.size a) :
    M.view.read (Elt F) (if h : cond = 1#1 then M.view.writes (Elt F) g [⟨Rect.unit (s := S2048x16) ![0, 0] S2048x16.size inb, w⟩] else g)
      = (if cond = 1#1 then w' else M.view.read (Elt F) g : Vec F S2048x16 .f32) := by
  subst hw
  split_ifs with h
  · exact View.read_writes_full _ _ _ _ _
  · rfl

set_option maxHeartbeats 1000000 in
/-- One grid point of the kernel, run from any buffers: the windows it reads are as they were, the counts take one step, the output window is written at a batch block's last point. -/
theorem kernelRun (c : Dev nD) (i : grid0.Coords)
    (M3 : Memref sig .tc .vmem S2048x384 .bf16) (h3 : M3.IsWhole)
    (M4 : Memref sig .tc .vmem S1x1x1024 .i32) (h4 : M4.IsWhole)
    (M5 : Memref sig .tc .vmem S1x1x1024 .f32) (h5 : M5.IsWhole)
    (M6 : Memref sig .tc .vmem S1x1x1024 .f32) (h6 : M6.IsWhole)
    (M7 : Memref sig .tc .vmem S1x1x1024 .f32) (h7 : M7.IsWhole)
    (M8 : Memref sig .tc .vmem S1x1x1024 .f32) (h8 : M8.IsWhole)
    (M9 : Memref sig .tc .vmem S1024x1 .i32) (h9 : M9.IsWhole)
    (M10 : Memref sig .tc .vmem S2048x16 .f32) (h10 : M10.IsWhole)
    (M11 : Memref sig .tc .vmem S2048x16 .f32) (h11 : M11.IsWhole)
    (f2 : Bf (F := F) c tbl) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11)
    (fs : Bf (F := F) c scr) (Q : PUnit → sProp 𝕄) :
    iprop(ptTbl c f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c scr fs
      ∗ (iprop(ptTbl c f2 ∗ pt c M3 f3 ∗ pt c M4 f4 ∗ pt c M5 f5 ∗ pt c M6 f6 ∗ pt c M7 f7 ∗ pt c M8 f8 ∗ pt c M9 f9 ∗ pt c M10 f10
          ∗ (∃ g, ⌜M11.view.read (Elt F) g = (if k0_cond10 i = 1#1 then
              outOf (step i (tbl.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (scr.view.read (Elt F) fs)) (M10.view.read (Elt F) f10)
            else M11.view.read (Elt F) f11 : Vec F S2048x16 .f32)⌝ ∗ pt c M11 g)
          ∗ (∃ g, ⌜scr.view.read (Elt F) g = step i (tbl.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (scr.view.read (Elt F) fs)⌝ ∗ pt c scr g)) -∗ Q ⟨⟩))
    ⊢ wp frame (wpE (defs₀ (F := F)) Variants.none c none) Set.univ
        (cc0__body i tbl (Memref.isWhole_whole _) M3 h3 M4 h4 M5 h5 M6 h6 M7 h7 M8 h8 M9 h9 M10 h10 M11 h11 scr (Memref.isWhole_whole _)) Q := by
  iintro ⟨H2, H3, H4, H5, H6, H7, H8, H9, H10, H11, Hs, Hk⟩
  sl_exec!
  sl_step
  iapply Hk
  iframe H2
  iframe H3
  iframe H4
  iframe H5
  iframe H6
  iframe H7
  iframe H8
  iframe H9
  iframe H10
  have e3 := View.readAt_full M3.view f3 (off := ![0, 0]) inb_S2048x384_S2048x384_0_0
  have e4 := View.readAt_full M4.view f4 (off := ![0, 0, 0]) inb_S1x1x1024_S1x1x1024_0_0_0
  have e5 := View.readAt_full M5.view f5 (off := ![0, 0, 0]) inb_S1x1x1024_S1x1x1024_0_0_0
  have e6 := View.readAt_full M6.view f6 (off := ![0, 0, 0]) inb_S1x1x1024_S1x1x1024_0_0_0
  have e7 := View.readAt_full M7.view f7 (off := ![0, 0, 0]) inb_S1x1x1024_S1x1x1024_0_0_0
  have e8 := View.readAt_full M8.view f8 (off := ![0, 0, 0]) inb_S1x1x1024_S1x1x1024_0_0_0
  have e9 := View.readAt_full M9.view f9 (off := ![0, 0]) inb_S1024x1_S1024x1_0_0
  have e10 := View.readAt_full M10.view f10 (off := ![0, 0]) inb_S2048x16_S2048x16_0_0
  isplitl [H11]
  · iexists _
    isplitl []
    rotate_left
    · iexact H11
    · ipureintro
      rw [← e3, ← e4, ← e5, ← e6, ← e7, ← e8, ← e9, ← e10]
      refine out_read c _ _ _ _ _ ?_ _
      refine congrArg (fun C => outOf C _) ((View.readAt_full scr.view _ inb_S2048x2048_S2048x2048_0_0).trans ?_)
      unfold step tiles
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      · exact zero_read c _ _ _ _
      all_goals rfl
  · iexists _
    isplitl []
    rotate_left
    · iexact Hs
    · ipureintro
      rw [← e3, ← e4, ← e5, ← e6, ← e7, ← e8, ← e9]
      unfold step tiles
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      refine acc_read c _ _ _ _ _ _ _ _ _ _ ?_ _ ?_ _ ?_
      · exact zero_read c _ _ _ _
      all_goals rfl

end Cert.KernelIdeal.Body

end
-- ==== Proof.OwnsI.lean ====
/-
  What one grid point of the kernel does, between owned blocks.
-/
module

public import proofs.«01_k».proof.Proof.BodyI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole memref owned at contents is its buffer held whole at something that reads so. -/
theorem owns_pt (c : Dev nD) {sp : Space} {sh : Shape} {e : EltTy} (M : Memref sig .tc sp sh e) (hM : M.IsWhole) (X : sh.Idx → Elt F e) :
    (owns (c : Thread nD τ) M fullShare X : sProp 𝕄) = iprop(∃ f : Bf (F := F) c M, ⌜M.view.read (Elt F) f = X⌝ ∗ pt c M f) := by
  obtain ⟨b, hsp, hsh, he, h⟩ := hM
  subst hsp hsh he
  cases h
  unfold owns
  simp only [Memref.view_whole, View.set_whole]

/-- `kernelRun` between owned blocks. -/
theorem kernelOwns (c : Dev nD) (i : grid0.Coords)
    (M3 : Memref sig .tc .vmem S2048x384 .bf16) (h3 : M3.IsWhole)
    (M4 : Memref sig .tc .vmem S1x1x1024 .i32) (h4 : M4.IsWhole)
    (M5 : Memref sig .tc .vmem S1x1x1024 .f32) (h5 : M5.IsWhole)
    (M6 : Memref sig .tc .vmem S1x1x1024 .f32) (h6 : M6.IsWhole)
    (M7 : Memref sig .tc .vmem S1x1x1024 .f32) (h7 : M7.IsWhole)
    (M8 : Memref sig .tc .vmem S1x1x1024 .f32) (h8 : M8.IsWhole)
    (M9 : Memref sig .tc .vmem S1024x1 .i32) (h9 : M9.IsWhole)
    (M10 : Memref sig .tc .vmem S2048x16 .f32) (h10 : M10.IsWhole)
    (M11 : Memref sig .tc .vmem S2048x16 .f32) (h11 : M11.IsWhole)
    (T : Vec F S2x8 .i32) (X3 : Vec F S2048x384 .bf16) (X4 : Vec F S1x1x1024 .i32) (X5 : Vec F S1x1x1024 .f32) (X6 : Vec F S1x1x1024 .f32) (X7 : Vec F S1x1x1024 .f32) (X8 : Vec F S1x1x1024 .f32) (X9 : Vec F S1024x1 .i32) (X10 : Vec F S2048x16 .f32) (X11 : Vec F S2048x16 .f32)
    (C : Vec F S2048x2048 .f32) (Q : PUnit → sProp 𝕄) :
    iprop(ptTbl c T ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ pt c scr C
      ∗ (iprop(ptTbl c T ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
          ∗ owns (c : Thread nD τ) M11 fullShare (if k0_cond10 i = 1#1 then outOf (step i T X3 X4 X5 X6 X7 X8 X9 C) X10 else X11)
          ∗ pt c scr (step i T X3 X4 X5 X6 X7 X8 X9 C)) -∗ Q ⟨⟩))
    ⊢ wp frame (wpE (defs₀ (F := F)) Variants.none c none) Set.univ
        (cc0__body i tbl (Memref.isWhole_whole _) M3 h3 M4 h4 M5 h5 M6 h6 M7 h7 M8 h8 M9 h9 M10 h10 M11 h11 scr (Memref.isWhole_whole _)) Q := by
  rw [owns_pt c M3 h3, owns_pt c M4 h4, owns_pt c M5 h5, owns_pt c M6 h6, owns_pt c M7 h7, owns_pt c M8 h8, owns_pt c M9 h9, owns_pt c M10 h10, owns_pt c M11 h11, owns_pt c M11 h11]
  iintro ⟨Ht, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hs, Hk⟩
  subst e3 e4 e5 e6 e7 e8 e9 e10 e11
  iapply (kernelRun c i M3 h3 M4 h4 M5 h5 M6 h6 M7 h7 M8 h8 M9 h9 M10 h10 M11 h11 T f3 f4 f5 f6 f7 f8 f9 f10 f11 C Q)
  iframe Ht
  iframe H3
  iframe H4
  iframe H5
  iframe H6
  iframe H7
  iframe H8
  iframe H9
  iframe H10
  iframe H11
  iframe Hs
  iintro ⟨Ht, H3, H4, H5, H6, H7, H8, H9, H10, ⟨%g, %hg, H11⟩, ⟨%h, %hh, Hs⟩⟩
  iapply Hk
  iframe Ht
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists g
    isplitr; · ipureintro; exact hg
    iexact H11
  · have hh' : h = _ := hh
    rw [hh']
    iexact Hs

end Cert.KernelIdeal.Body

end
-- ==== Proof.FrameI.lean ====
/-
  The kernel's pipeline: what each window holds, the counts carried from point to point, and the run of the whole program.
-/
module

public import proofs.«01_k».proof.Proof.OwnsI

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
open Cert.KernelIdeal.Body

variable (m : (ℓ : Loc nD τ sig) → Buf (Elt F) ℓ)

/-- The host lines before the region. -/
abbrev opsBefore : List (List (HloOp τ sig (Elt F))) := [hostOps0, hostOps0_1, hostOps0_2, hostOps0_3, hostOps0_4, hostOps0_5, hostOps0_6, hostOps0_7, hostOps0_8, hostOps0_9]

/-- What every buffer holds when the region is entered. -/
def V0 (c : Dev nD) : Valuation τ sig (Elt F) := StableHlo.after opsBefore.flatten (fun b => m (c, b))

/-- The table's contents when the region is entered. -/
def table (c : Dev nD) : Vec F S2x8 .i32 := V0 m c (Proc.devRef .tc main_v7)

/-- The table as the pipeline takes it. -/
def adm (p : Fin 1) : (pcfgs (F := F) p).Adm := ⟨fun k => V0 m (0 : Dev nD) (Proc.devRef .tc (pre0.ref k)), trivial⟩

/-- The windows' arrays when the region is entered. -/
def arrs (c : Dev nD) (w : Fin 9) : Buf (Elt F) ((spec0 w).arr.view.loc (c.tc : Thread nD τ)) :=
  V0 m c (Proc.devRef .tc (Pipeline.arrRef spec0 w))

/-- The block of window 0 at point `t`. -/
def x3 (c : Dev nD) (t : Fin grid0.N) : Vec F S2048x384 .bf16 := ((win0 (adm m 0) 0).blk t).view.read (Elt F) (arrs m c 0)
/-- The block of window 1 at point `t`. -/
def x4 (c : Dev nD) (t : Fin grid0.N) : Vec F S1x1x1024 .i32 := ((win0 (adm m 0) 1).blk t).view.read (Elt F) (arrs m c 1)
/-- The block of window 2 at point `t`. -/
def x5 (c : Dev nD) (t : Fin grid0.N) : Vec F S1x1x1024 .f32 := ((win0 (adm m 0) 2).blk t).view.read (Elt F) (arrs m c 2)
/-- The block of window 3 at point `t`. -/
def x6 (c : Dev nD) (t : Fin grid0.N) : Vec F S1x1x1024 .f32 := ((win0 (adm m 0) 3).blk t).view.read (Elt F) (arrs m c 3)
/-- The block of window 4 at point `t`. -/
def x7 (c : Dev nD) (t : Fin grid0.N) : Vec F S1x1x1024 .f32 := ((win0 (adm m 0) 4).blk t).view.read (Elt F) (arrs m c 4)
/-- The block of window 5 at point `t`. -/
def x8 (c : Dev nD) (t : Fin grid0.N) : Vec F S1x1x1024 .f32 := ((win0 (adm m 0) 5).blk t).view.read (Elt F) (arrs m c 5)
/-- The block of window 6 at point `t`. -/
def x9 (c : Dev nD) (t : Fin grid0.N) : Vec F S1024x1 .i32 := ((win0 (adm m 0) 6).blk t).view.read (Elt F) (arrs m c 6)
/-- The block of window 7 at point `t`. -/
def x10 (c : Dev nD) (t : Fin grid0.N) : Vec F S2048x16 .f32 := ((win0 (adm m 0) 7).blk t).view.read (Elt F) (arrs m c 7)

/-- The counts after point `t`, from the counts before it. -/
def stepAt (c : Dev nD) (t : Fin grid0.N) (C : Vec F S2048x2048 .f32) : Vec F S2048x2048 .f32 :=
  step (grid0.coords t) (table m 0) (x3 m c t) (x4 m c t) (x5 m c t) (x6 m c t) (x7 m c t) (x8 m c t) (x9 m c t) C

/-- The counts after the first `n` points. -/
def cnt (c : Dev nD) : ℕ → Vec F S2048x2048 .f32
  | 0 => k0_pay11
  | n + 1 => if h : n < grid0.N then stepAt m c ⟨n, h⟩ (cnt c n) else k0_pay11

/-- What the body leaves of the output window at point `t`, where it writes it. -/
def outAt (c : Dev nD) (t : Fin grid0.N) : Vec F S2048x16 .f32 := outOf (cnt m c (t.val + 1)) (x10 m c t)

/-- The invariant after the first `n` points: the counts in the scratch (before the first point anything), the table, the generator register. -/
def PhiS (c : Dev nD) (n : ℕ) (_ : n ≤ grid0.N) : sProp 𝕄 :=
  iprop((∃ f : Vec F S2048x2048 .f32, ⌜n ≠ 0 → f = cnt m c n⌝ ∗ pt c scr f) ∗ (∃ r, prngReg c r) ∗ ptTbl c (table m 0))

/-- The proof data of the pipeline. -/
def dats (p : Fin 1) (c : Dev nD) : Dat τ (Elt F) Unit ℕ (UR sig nD τ) ℕ (Pipeline.pin pcfgs (adm m) p) c where
  A := arrs m c
  after := fun
    | 0 => fun t => x3 m c t
    | 1 => fun t => x4 m c t
    | 2 => fun t => x5 m c t
    | 3 => fun t => x6 m c t
    | 4 => fun t => x7 m c t
    | 5 => fun t => x8 m c t
    | 6 => fun t => x9 m c t
    | 7 => fun t => x10 m c t
    | 8 => fun t => outAt m c t
    | ⟨_ + 9, h⟩ => absurd h (Nat.not_lt.2 (Nat.le_add_left _ _))
  Φ := fun t => PhiS m c t.val (Nat.le_of_lt_succ t.isLt)
  q := fun _ => fullShare
  owed := fun _ => 0

/-- The invariant before a point is the invariant after the points before it. -/
theorem phi_castSucc (c : Dev nD) (t : Fin grid0.N) : (dats m 0 c).Φ t.castSucc = PhiS m c t.val (Nat.le_of_lt t.isLt) := by
  dsimp only [dats]; exact Pipeline.Dat.Φ_castSucc (PhiS m c) t

/-- The body finds the point's rows in window 0. -/
theorem before0 (c : Dev nD) (t : Fin grid0.N) (d) : (dats m 0 c).before 0 t d = x3 m c t :=
  (dats m 0 c).before_in_eq_fetched 0 rfl (fun _ => rfl) (fun _ _ _ => rfl) (fun _ => rfl) t d

/-- The body finds the point's features in window 1. -/
theorem before1 (c : Dev nD) (t : Fin grid0.N) (d) : (dats m 0 c).before 1 t d = x4 m c t :=
  (dats m 0 c).before_in_eq_fetched 1 rfl (fun _ => rfl) (fun _ _ _ => rfl) (fun _ => rfl) t d

/-- The body finds the point's thresholds in window 2. -/
theorem before2 (c : Dev nD) (t : Fin grid0.N) (d) : (dats m 0 c).before 2 t d = x5 m c t :=
  (dats m 0 c).before_in_eq_fetched 2 rfl (fun _ => rfl) (fun _ _ _ => rfl) (fun _ => rfl) t d

/-- The body finds the point's first coefficients in window 3. -/
theorem before3 (c : Dev nD) (t : Fin grid0.N) (d) : (dats m 0 c).before 3 t d = x6 m c t :=
  (dats m 0 c).before_in_eq_fetched 3 rfl (fun _ => rfl) (fun _ _ _ => rfl) (fun _ => rfl) t d

/-- The body finds the point's second coefficients in window 4. -/
theorem before4 (c : Dev nD) (t : Fin grid0.N) (d) : (dats m 0 c).before 4 t d = x7 m c t :=
  (dats m 0 c).before_in_eq_fetched 4 rfl (fun _ => rfl) (fun _ _ _ => rfl) (fun _ => rfl) t d

/-- The body finds the point's bounds in window 5. -/
theorem before5 (c : Dev nD) (t : Fin grid0.N) (d) : (dats m 0 c).before 5 t d = x8 m c t :=
  (dats m 0 c).before_in_eq_fetched 5 rfl (fun _ => rfl) (fun _ _ _ => rfl) (fun _ => rfl) t d

/-- The body finds the point's rules in window 6. -/
theorem before6 (c : Dev nD) (t : Fin grid0.N) (d) : (dats m 0 c).before 6 t d = x9 m c t :=
  (dats m 0 c).before_in_eq_fetched 6 rfl (fun _ => rfl) (fun _ _ _ => rfl) (fun _ => rfl) t d

/-- The body finds the point's parameters in window 7. -/
theorem before7 (c : Dev nD) (t : Fin grid0.N) (d) : (dats m 0 c).before 7 t d = x10 m c t :=
  (dats m 0 c).before_in_eq_fetched 7 rfl (fun _ => rfl) (fun _ _ _ => rfl) (fun _ => rfl) t d

/-- A batch block's first point forgets the counts it finds. -/
theorem step_first (i : grid0.Coords) (hi : Scalar.cmpi .ne (Scalar.extui (Scalar.cmpi .eq (BitVec.ofNat 32 (i 1).val) 0#32) : BitVec 32) 0#32 = 1#1)
    (T : Vec F S2x8 .i32) (y3 : Vec F S2048x384 .bf16) (y4 : Vec F S1x1x1024 .i32) (y5 y6 y7 y8 : Vec F S1x1x1024 .f32) (y9 : Vec F S1024x1 .i32) (C C' : Vec F S2048x2048 .f32) :
    step i T y3 y4 y5 y6 y7 y8 y9 C = step i T y3 y4 y5 y6 y7 y8 y9 C' := by
  unfold step; rw [if_pos hi, if_pos hi]

/-- The first point of the grid is a batch block's first point. -/
theorem first_zero : ∀ t : Fin grid0.N, t.val = 0 →
    Scalar.cmpi .ne (Scalar.extui (Scalar.cmpi .eq (BitVec.ofNat 32 (grid0.coords t 1).val) 0#32) : BitVec 32) 0#32 = 1#1 := by decide +kernel

/-- From the counts a point finds, the point makes the next counts. -/
theorem stepAt_cnt (c : Dev nD) (t : Fin grid0.N) (f : Vec F S2048x2048 .f32) (hf : t.val ≠ 0 → f = cnt m c t.val) :
    stepAt m c t f = cnt m c (t.val + 1) := by
  rw [cnt, dif_pos t.isLt]
  by_cases h : t.val = 0
  · exact step_first _ (first_zero t h) _ _ _ _ _ _ _ _ _ _
  · rw [hf h]

/-- The output window is idle exactly where the body does not write it, and there it is not written back. -/
theorem idle_iff : ∀ t : Fin grid0.N, idle0 8 (grid0.coords t) = !decide (k0_cond10 (grid0.coords t) = 1#1) := by decide +kernel
/-- Where the body leaves the output window alone its block is not written back, -/
theorem flushOf_idle : ∀ t : Fin grid0.N, k0_cond10 (grid0.coords t) ≠ 1#1 → Pipeline.Window.flushOf grid0 true cc0_transform_8 t = false := by decide +kernel
/-- and so too with the window as the pipeline holds it. -/
theorem flush_idle (t : Fin grid0.N) (h : k0_cond10 (grid0.coords t) ≠ 1#1) : (win0 (adm m 0) 8).flush t = false := flushOf_idle t h

/-- The output window after the body, as the body obligation states it. -/
theorem leave8 (c : Dev nD) (t : Fin grid0.N) (M : Memref sig .tc .vmem S2048x16 .f32) {δ : Type} (B : δ → Vec F S2048x16 .f32) (d : δ) (A : Vec F S2048x16 .f32)
    (fl idl : Bool) : idl = idle0 8 (grid0.coords t) → (k0_cond10 (grid0.coords t) ≠ 1#1 → fl = false) →
    ((owns (c : Thread nD τ) M fullShare (if k0_cond10 (grid0.coords t) = 1#1 then A else B d) : sProp 𝕄)
      ⊢ (match idl with
        | true => match fl with
          | false => iprop(∃ d, owns (c : Thread nD τ) M fullShare (B d))
          | true => owns (c : Thread nD τ) M fullShare A
        | false => owns (c : Thread nD τ) M fullShare A : sProp 𝕄)) := by
  intro hi hfl
  rw [hi, idle_iff t]
  by_cases h : k0_cond10 (grid0.coords t) = 1#1
  · rw [if_pos h, decide_eq_true h]
    exact .rfl
  · rw [if_neg h, decide_eq_false h, hfl h]
    show (owns (c : Thread nD τ) M fullShare (B d) : sProp 𝕄) ⊢ iprop(∃ d, owns (c : Thread nD τ) M fullShare (B d))
    iintro H
    iexists d
    iexact H

set_option maxHeartbeats 1000000 in
/-- The body keeps the invariant and leaves every window as the proof data say. -/
theorem body_obligation (c : Dev nD) : BodyObligation (dats m 0 c) defs₀ Variants.none () Set.univ := by
  intro t
  rw [phi_castSucc]
  have hs : (dats m 0 c).Φ t.succ = PhiS m c (t.val + 1) t.isLt := rfl
  rw [hs]
  iintro ⟨HP, HO, HW⟩
  ihave HW' := (show _ ⊢ _ from by rw [bigSep_W0]) $$ HW
  icases HW' with ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0 m c t d0, before1 m c t d1, before2 m c t d2, before3 m c t d3, before4 m c t d4, before5 m c t d5, before6 m c t d6, before7 m c t d7]
  unfold PhiS
  icases HP with ⟨⟨%f, %hf, Hs⟩, Hg, Ht⟩
  iapply (kernelOwns c (grid0.coords t) _ _ _ _ _ _ _ _ _ _ _ _ _ _ _ _ _ _ (table m 0) (x3 m c t) (x4 m c t) (x5 m c t) (x6 m c t) (x7 m c t) (x8 m c t) (x9 m c t) (x10 m c t) ((dats m 0 c).before 8 t d8) f)
  iframe Ht
  iframe H0
  iframe H1
  iframe H2
  iframe H3
  iframe H4
  iframe H5
  iframe H6
  iframe H7
  iframe H8
  iframe Hs
  have hst : step (grid0.coords t) (table m 0) (x3 m c t) (x4 m c t) (x5 m c t) (x6 m c t) (x7 m c t) (x8 m c t) (x9 m c t) f = cnt m c (t.val + 1) := stepAt_cnt m c t f hf
  rw [hst]
  iintro ⟨Ht, H0, H1, H2, H3, H4, H5, H6, H7, H8, Hs⟩
  isplitl [Hs Hg Ht]
  · isplitl [Hs]
    · iexists (cnt m c (t.val + 1))
      isplitr; · ipureintro; exact fun _ => rfl
      iexact Hs
    · iframe Hg; iexact Ht
  iframe HO
  rw [bigSep_W0]
  iframe H0
  iframe H1
  iframe H2
  iframe H3
  iframe H4
  iframe H5
  iframe H6
  iframe H7
  ihave H := (leave8 c t (spec0_8.stage ((Pipeline.pin pcfgs (adm m) 0).slots t 8)) ((dats m 0 c).before 8 t) d8 (outOf (cnt m c (t.val + 1)) (x10 m c t)) ((win0 (adm m 0) 8).flush t) (idle0 8 (grid0.coords t)) rfl (flush_idle m t)) $$ H8
  iexact H

end Cert.KernelIdeal.Frame

end
-- ==== Proof.RunI.lean ====
/-
  The run of the whole kernel program: its host lines, its pipeline, and the slice taken at the end.
-/
module

public import proofs.«01_k».proof.Proof.FrameI

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
open Cert.KernelIdeal.Body

variable (m : (ℓ : Loc nD τ sig) → Buf (Elt F) ℓ)

/-- The line after the region touches the pipeline's arrays and the bypassing buffers only. -/
theorem tail_sub : ∀ ops ∈ ([hostOps1] : List (List (HloOp τ sig (Elt F)))), ∀ op ∈ ops,
    op.bufs ⊆ Pipeline.tailRefs sig (pcfgs (F := F) 0).pre (Pipeline.pin pcfgs (adm m) 0).spec := by
  intro ops hops op hop
  obtain rfl := List.mem_singleton.mp hops
  refine Pipeline.sub_tailRefs _ _ op ((List.forall_iff_forall_mem.mp hostOps1_sub) op hop) ?_
  obtain rfl := List.mem_singleton.mp hop
  exact (by decide +kernel : ∀ k, Proc.devRef .tc (pre0.ref k) ∉ ({Proc.devRef .tc main_v31, Proc.devRef .tc main_v32} : Finset (DevRef τ sig)))

/-- It allocates nothing. -/
theorem tail_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

/-- It writes no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  exact (by decide +kernel : ∀ w, Proc.devRef .tc (Pipeline.arrRef spec0 w) ∉ ({Proc.devRef .tc main_v32} : Finset (DevRef τ sig)))

/-- The whole program is its host lines, the pipeline, and the slice. -/
theorem main_around : Pipeline.HMainPK (Ix := Unit) (Name := ℕ) (U := UR sig nD τ) (Lvl := ℕ) (pcfgs (F := F)) 0 defs₀ Variants.none m main
    (fun c b => V0 m c (Proc.devRef .tc b)) (fun _ => Pipeline.chain ([hostOps1].map StableHlo.seq)) :=
  Pipeline.hmainP_around pcfgs 0 defs₀ Variants.none m main opsBefore [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    (by repeat' constructor)
    main_chain

/-- There is one table, so holding every table is holding that one. -/
theorem tables_held (c : Dev nD) : (Pipeline.ΦT pre0 (adm m 0).1 c : sProp 𝕄) ⊢ ptTbl c (table m 0) := by
  unfold Pipeline.ΦT Pipeline.prefHeld
  rw [show (Finset.univ : Finset (Fin 1)) = {0} from rfl, bigSep_singleton]
  exact .rfl

/-- At the first point the scratch holds anything at all. -/
theorem enter (c : Dev nD) : iprop(Pipeline.ΦA spec0 c ∗ Pipeline.ΦT pre0 (adm m 0).1 c) ⊢ (dats m 0 c).Φ 0 := by
  show _ ⊢ PhiS m c 0 (Nat.zero_le _)
  unfold PhiS Pipeline.ΦA
  rw [scopedRest0_eq]
  iintro ⟨⟨⟨%f, Hs⟩, Hp⟩, Ht⟩
  ihave Ht' := tables_held m c $$ Ht
  iframe Hp Ht'
  iexists f
  isplitl []
  · ipureintro; exact fun h => absurd rfl h
  · iexact Hs

/-- After the last point the scratch is handed back. -/
theorem leave (c : Dev nD) : (dats m 0 c).Φ (Fin.last grid0.N) ⊢ Pipeline.ΦA spec0 c := by
  show PhiS m c grid0.N (le_refl _) ⊢ _
  unfold PhiS Pipeline.ΦA
  rw [scopedRest0_eq]
  iintro ⟨⟨%f, -, Hs⟩, Hp, -⟩
  iframe Hp
  iexists f
  iexact Hs

/-- The whole program runs: the pipeline's arrays end at what their blocks made of them, every other buffer at what the
    host lines made of it, and every semaphore at zero. -/
theorem run_main (g : Dev nD → PrngReg) :
    θ_run defs (onTc (τ := τ) (main (F := F))) ⟨m, fun _ => 0, g⟩ (fun r =>
      Pipeline.FramePost (Pipeline.pin pcfgs (adm m)) (dats m) 0 (Pipeline.afterTail pcfgs (adm m) (dats m) 0 (V0 m) [hostOps1]) r
      ∧ r.2.sem = fun _ => 0) :=
  Pipeline.θ_run_frameP_around_track pcfgs (adm m) (dats m) 0 launch0 defs₀ Variants.none m g main
    (hbody := fun c => (body_obligation m c).loose) (hshare := fun c w => Dat.share_full (dats m 0 c) (fun _ => rfl) w)
    (howed := fun _ _ => rfl) (V₀ := V0 m) (opss := [hostOps1]) (hsub := tail_sub m) (hfresh := tail_fresh) (hkeep := tail_keeps)
    (hmain := main_around m) (hA := fun _ _ => rfl)
    (hpf := fun c k => by have h : c = 0 := Subsingleton.elim _ _; subst h; rfl)
    (hin := enter m) (hout := leave m)
    (Q' := fun r => Pipeline.FramePost (Pipeline.pin pcfgs (adm m)) (dats m) 0 (Pipeline.afterTail pcfgs (adm m) (dats m) 0 (V0 m) [hostOps1]) r ∧ r.2.sem = fun _ => 0)
    (hQ' := fun _ h => h)

/-- No host line writes an argument, before the region or after it. -/
theorem keeps_args : ∀ op ∈ (opsBefore.flatten ++ hostOps1 : List (HloOp τ sig (Elt F))),
    ∀ b ∈ [main_arg0, main_arg1, main_arg2, main_arg3, main_arg4, main_arg5], Proc.devRef .tc b ∉ op.writes := by
  refine List.forall_iff_forall_mem.mp ?_
  repeat' constructor
  all_goals
    intro b hb h
    change _ ∈ ({Proc.devRef .tc _} : Finset (DevRef τ sig)) at h
    obtain rfl := Proc.devRef_injective _ (Finset.mem_singleton.mp h)
    exact absurd hb (by decide +kernel)

/-- No argument is an array of the pipeline, and each lives outside its scopes. -/
theorem args_apart : ∀ b ∈ [main_arg0, main_arg1, main_arg2, main_arg3, main_arg4, main_arg5],
    b ∈ Pipeline.restRefs sig spec0 ∧ ∀ w, Pipeline.arrRef spec0 w ≠ b := by
  decide +kernel

/-- Nor is the result. -/
theorem result_apart : main_v32 ∈ Pipeline.restRefs sig spec0 := by decide +kernel

/-- An argument holds after the whole program what it held before it. -/
theorem arg_kept (c : Dev nD) (b : Ref sig .tc) (hb : b ∈ [main_arg0, main_arg1, main_arg2, main_arg3, main_arg4, main_arg5]) :
    Pipeline.afterTail pcfgs (adm m) (dats m) 0 (V0 m) [hostOps1] c b = m ((c.tc : Thread nD τ).loc b) := by
  unfold Pipeline.afterTail
  rw [StableHlo.after_of_forall_not_mem _ _ fun op hop => keeps_args op (List.mem_append_right _ (by simpa using hop)) b hb,
    Pipeline.withArrays_of_ne _ c (V0 m c) _ _ (args_apart b hb).2]
  exact StableHlo.after_of_forall_not_mem _ _ fun op hop => keeps_args op (List.mem_append_left _ hop) b hb

/-- The output array after the last point. -/
def arrEnd (c : Dev nD) : Vec F S4096x16 .f32 := (dats m 0 c).arrAt 8 grid0.N

/-- The result is the first ten columns of the output array. -/
theorem result_eq (c : Dev nD) : Pipeline.afterTail pcfgs (adm m) (dats m) 0 (V0 m) [hostOps1] c main_v32
    = extractStridedSlice S4096x10 ![0, 0] (arrEnd m c) slices_S4096x16_S4096x10_0_0 := by
  unfold Pipeline.afterTail
  simp only [List.flatten_cons, List.flatten_nil, List.append_nil, hostOps1]
  after_results
  exact congrArg (extractStridedSlice S4096x10 ![0, 0] · slices_S4096x16_S4096x10_0_0)
    (Pipeline.withArrays_arr spec0 (launch0 (F := F)).win.arr_inj c (V0 m c) _ 8)

/-- The run of the kernel program, its arguments unchanged and its result the first ten columns of the output array. -/
theorem run (g : Dev nD → PrngReg) :
    θ_run defs (onTc (τ := τ) (main (F := F))) ⟨m, fun _ => 0, g⟩ (fun r => (∀ c : Dev nD,
      (r.2.mem ((c.tc : Thread nD τ).loc main_v32) = extractStridedSlice S4096x10 ![0, 0] (arrEnd m c) slices_S4096x16_S4096x10_0_0)
      ∧ ∀ b ∈ [main_arg0, main_arg1, main_arg2, main_arg3, main_arg4, main_arg5], r.2.mem ((c.tc : Thread nD τ).loc b) = m ((c.tc : Thread nD τ).loc b))
      ∧ r.2.sem = fun _ => 0) :=
  (θ_run defs _ _).mono (fun r h => ⟨fun c => ⟨((h.1 c).2 main_v32 result_apart).trans (result_eq m c),
    fun b hb => ((h.1 c).2 b (args_apart b hb).1).trans (arg_kept m c b hb)⟩, h.2⟩) (run_main m g)

end Cert.KernelIdeal.Frame

end
-- ==== Proof.Literal.lean ====
/-
  When a literal holds of a row: the equality, the less-than and the greater-than tests.
-/
module

public import Idealize.ShloMosaic.Lib.Pointwise

@[expose] public section

set_option maxRecDepth 16384

noncomputable section

namespace Cert.Literal

open Idealize.ShloMosaic

/-- Whether a feature's value `x` satisfies a literal of operation `op` and value `v`. -/
def holds (op : BitVec 32) (x v : EReal) : Prop :=
  if op = 0#32 then max (x - v) (-(x - v)) < Ideal.ofBits .f32 0x358637BD#32 else if op = 1#32 then x < v else v < x

/-- The feature a literal names, its index read signed and clipped. -/
def feat (w : BitVec 32) : Fin 128 := ⟨min w.toInt.toNat 127, by omega⟩

/-- What the kernel multiplies the difference by. -/
def coefA (op : BitVec 32) : EReal := if op = 0#32 then 0 else if op = 1#32 then -1 else 1

/-- What the kernel multiplies the distance by. -/
def coefB (op : BitVec 32) : EReal := if op = 0#32 then -1 else 0

/-- What the kernel compares with. -/
def coefG (op : BitVec 32) : EReal := if op = 0#32 then -Ideal.ofBits .f32 0x358637BD#32 else 0

/-- The kernel's one comparison, of a finite feature value, is the literal's failure. -/
theorem miss_iff (op : BitVec 32) (x v : EReal) (ht : x ≠ ⊤) (hb : x ≠ ⊥) :
    coefA op * (x - v) + coefB op * max (x - v) (-(x - v)) ≤ coefG op ↔ ¬ holds op x v := by
  unfold coefA coefB coefG holds
  by_cases h0 : op = 0#32
  · simp only [if_pos h0, zero_mul, zero_add, neg_one_mul, EReal.neg_le_neg_iff, not_lt]
  · simp only [if_neg h0, zero_mul, add_zero]
    by_cases h1 : op = 1#32
    · simp only [if_pos h1, neg_one_mul, not_lt]
      rw [← neg_zero, EReal.neg_le_neg_iff]
      exact EReal.sub_nonneg (.inl ht) (.inl hb)
    · simp only [if_neg h1, one_mul, not_lt]
      exact EReal.sub_nonpos

/-- A small number's word, read signed, is the number. -/
theorem toInt_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by omega), e]

/-- An index in range is the word of the feature it names. -/
theorem feat_word (w : BitVec 32) (h : IntOp.cmpi .sge w 0#32 = 1#1) (h' : IntOp.cmpi .sle w 127#32 = 1#1) : w = BitVec.ofNat 32 (feat w).val := by
  have e : ∀ p : Prop, ∀ _ : Decidable p, BitVec.ofBool (decide p) = 1#1 → p := fun p _ q => by by_contra hp; simp [hp] at q
  have e1 : (0#32 : BitVec 32).toInt ≤ w.toInt := e _ _ h
  have e2 : w.toInt ≤ (127#32 : BitVec 32).toInt := e _ _ h'
  have c0 : (0#32 : BitVec 32).toInt = 0 := by decide
  have c1 : (127#32 : BitVec 32).toInt = 127 := by decide
  rw [c0] at e1; rw [c1] at e2
  apply BitVec.eq_of_toInt_eq
  have hf : (feat w).val = w.toInt.toNat := Nat.min_eq_left (by omega)
  rw [hf, toInt_small _ (by omega), Int.toNat_of_nonneg e1]

/-- The low seven bits of a small column number. -/
theorem low_bits : ∀ x : Fin 128, IntOp.andi (BitVec.ofNat 32 x.val) 127#32 = BitVec.ofNat 32 x.val := by decide +kernel

/-- The words of two small numbers differ when the numbers do. -/
theorem ofNat_inj (a b : ℕ) (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- The sum the kernel takes over three stacked copies of the features, the last two of them zero, is the one feature named. -/
theorem one_hot (a : Fin 384 → EReal) (hz : ∀ x : Fin 384, 128 ≤ x.val → a x = 0) (w : BitVec 32) (h : IntOp.cmpi .sge w 0#32 = 1#1) (h' : IntOp.cmpi .sle w 127#32 = 1#1) :
    (∑ x : Fin 384, Scalar.select (IntOp.cmpi .eq (IntOp.andi (BitVec.ofNat 32 x.val) 127#32) w) (a x) 0) = a (Fin.castLE (by decide) (feat w)) := by
  have hw := feat_word w h h'
  rw [Finset.sum_eq_single (Fin.castLE (by decide) (feat w) : Fin 384)]
  · have : IntOp.cmpi .eq (IntOp.andi (BitVec.ofNat 32 (feat w).val) 127#32) w = 1#1 := by
      rw [low_bits]; rw [← hw]; exact congrArg BitVec.ofBool (beq_self_eq_true w)
    show Scalar.select (IntOp.cmpi .eq (IntOp.andi (BitVec.ofNat 32 (feat w).val) 127#32) w) _ _ = _
    rw [this]; rfl
  · intro b _ hb
    by_cases hl : 128 ≤ b.val
    · rw [hz b hl]; unfold Scalar.select; split <;> rfl
    · have hne : IntOp.cmpi .eq (IntOp.andi (BitVec.ofNat 32 b.val) 127#32) w = 0#1 := by
        refine congrArg BitVec.ofBool (beq_eq_false_iff_ne.2 fun q => hb (Fin.ext ?_))
        have e := low_bits ⟨b.val, by omega⟩
        rw [hw, e] at q
        exact ofNat_inj _ _ (by have := b.isLt; omega) (by have := (feat w).isLt; omega) q
      rw [hne]; rfl
  · intro h; exact absurd (Finset.mem_univ _) h

end Cert.Literal

end
-- ==== Proof.Belief.lean ====
/-
  The mathematics both programs compute: softmax rule masses, the logarithms of their commonalities, and the pignistic
  belief of the combined rules; and how sums and maxima over sixteen padded columns shrink to the columns that matter.
-/
module

public import Idealize.ShloMosaic.Lib.Pointwise

@[expose] public section

set_option maxRecDepth 16384

noncomputable section

namespace Cert.Belief

open Idealize.ShloMosaic

/-- The smallest number a logarithm or a divisor is clipped to. -/
abbrev tiny : EReal := Ideal.ofBits .f32 0x2B8CBCCC#32

/-- The greatest of finitely many numbers, as a maximum started at minus infinity. -/
def top {n : ℕ} (x : Fin n → EReal) : EReal := Finset.univ.fold max (Ideal.ofBits .f32 0xFF800000#32) x

/-- The literal a maximum starts from is minus infinity. -/
theorem start_eq : Ideal.ofBits .f32 0xFF800000#32 = ⊥ := by simp [Ideal.ofBits, Ideal.ieee]

/-- The softmax masses of one rule: ten classes and the whole frame. -/
def mass (x : Fin 11 → EReal) (k : Fin 11) : EReal := Ideal.div (Ideal.exp (x k - top x)) (∑ j, Ideal.exp (x j - top x))

/-- The logarithm of a rule's commonality of one class. -/
def lnComm (x : Fin 11 → EReal) (k : Fin 10) : EReal := Ideal.log (max (mass x k.castSucc + mass x 10) tiny)

/-- The logarithm of a rule's mass of the whole frame. -/
def lnOm (x : Fin 11 → EReal) : EReal := Ideal.log (max (mass x 10) tiny)

/-- What the logarithms are shifted by before the exponential. -/
def peak (qc : Fin 10 → EReal) (qo : EReal) : EReal := max (top qc) qo

/-- The divisor of the combined masses. -/
def total (qc : Fin 10 → EReal) (qo : EReal) : EReal :=
  max ((∑ j, Ideal.exp (qc j - peak qc qo)) - Ideal.ofBits .f32 0x41100000#32 * Ideal.exp (qo - peak qc qo)) tiny

/-- The pignistic belief in one class, before it is rescaled. -/
def raw (qc : Fin 10 → EReal) (qo : EReal) (k : Fin 10) : EReal :=
  Ideal.div (Ideal.exp (qc k - peak qc qo) - Ideal.exp (qo - peak qc qo)) (total qc qo)
    + Ideal.div (Ideal.exp (qo - peak qc qo)) (total qc qo) * Ideal.ofBits .f32 0x3DCCCCCD#32

/-- The pignistic belief in one class. -/
def belief (qc : Fin 10 → EReal) (qo : EReal) (k : Fin 10) : EReal := Ideal.div (raw qc qo k) (max (∑ j, raw qc qo j) tiny)

/-- The belief of one row of the batch, from which rules fire and the rules' parameters. -/
def answer (fired : Fin 2048 → EReal) (par : Fin 2048 → Fin 11 → EReal) (k : Fin 10) : EReal :=
  belief (fun j => ∑ r, fired r * lnComm (par r) j) (∑ r, fired r * lnOm (par r)) k

/-- Among the sixteen padded columns, the first `n`. -/
abbrev up {n : ℕ} (h : n ≤ 16) (k : Fin n) : Fin 16 := Fin.castLE h k

/-- A sum over sixteen columns of which only the first `n` count. -/
theorem sum_up {n : ℕ} (h : n ≤ 16) (f : Fin 16 → EReal) (hf : ∀ x : Fin 16, n ≤ x.val → f x = 0) : ∑ x, f x = ∑ k : Fin n, f (up h k) := by
  obtain ⟨c, hc⟩ := Nat.exists_eq_add_of_le h
  have key : ∀ (N : ℕ) (hN : N = n + c) (g : Fin N → EReal) (hn : n ≤ N), (∀ x : Fin N, n ≤ x.val → g x = 0) → ∑ x, g x = ∑ k : Fin n, g (Fin.castLE hn k) := by
    intro N hN g hn hg
    subst hN
    rw [Fin.sum_univ_add]
    rw [Finset.sum_eq_zero (fun i _ => hg (Fin.natAdd n i) (Nat.le_add_right _ _)), add_zero]
    rfl
  exact key 16 hc f h hf

/-- A maximum over sixteen columns of which only the first `n` are above minus infinity. -/
theorem top_up {n : ℕ} (h : n ≤ 16) (f : Fin 16 → EReal) (hf : ∀ x : Fin 16, n ≤ x.val → f x = ⊥) : top f = top fun k : Fin n => f (up h k) := by
  unfold top
  refine le_antisymm (Finset.fold_max_le _ |>.2 ⟨?_, fun x _ => ?_⟩) (Finset.fold_max_le _ |>.2 ⟨?_, fun x _ => ?_⟩)
  · rw [start_eq]; exact bot_le
  · by_cases hx : x.val < n
    · exact (Finset.le_fold_max _).2 (.inr ⟨⟨x.val, hx⟩, Finset.mem_univ _, le_rfl⟩)
    · rw [hf x (Nat.not_lt.1 hx)]; exact bot_le
  · rw [start_eq]; exact bot_le
  · exact (Finset.le_fold_max _).2 (.inr ⟨_, Finset.mem_univ _, le_rfl⟩)

/-- The maximum once more against its start is itself. -/
theorem max_start_top {n : ℕ} (x : Fin n → EReal) : max (Ideal.ofBits .f32 0xFF800000#32) (top x) = top x := by
  rw [start_eq]; exact max_eq_right bot_le

/-- A sum that picks out one column. -/
theorem sum_pick (g : Fin 16 → EReal) : (∑ x : Fin 16, Scalar.select (IntOp.cmpi .eq (BitVec.ofNat 32 x.val) 10#32) (g x) 0) = g 10 := by
  rw [Finset.sum_eq_single (10 : Fin 16)]
  · rfl
  · intro b _ hb
    have : IntOp.cmpi .eq (BitVec.ofNat 32 b.val) 10#32 = 0#1 := by revert hb; revert b; decide
    rw [this]; rfl
  · intro h; exact absurd (Finset.mem_univ _) h

/-- The comparison with ten keeps the first ten columns. -/
theorem slt_lt : ∀ x : Fin 16, x.val < 10 → IntOp.cmpi .slt (BitVec.ofNat 32 x.val) 10#32 = 1#1 := by decide

/-- The comparison with ten drops the last six columns. -/
theorem slt_ge : ∀ x : Fin 16, 10 ≤ x.val → IntOp.cmpi .slt (BitVec.ofNat 32 x.val) 10#32 = 0#1 := by decide

/-- Selecting by the comparison with ten. -/
theorem select_lt {α : Type} (x : Fin 16) (a b : α) : Scalar.select (IntOp.cmpi .slt (BitVec.ofNat 32 x.val) 10#32) a b = if x.val < 10 then a else b := by
  by_cases h : x.val < 10
  · rw [slt_lt x h, if_pos h]; rfl
  · rw [slt_ge x (Nat.not_lt.1 h), if_neg h]; rfl

/-- Minus infinity less anything is minus infinity, whose exponential is zero. -/
theorem exp_bot_sub (y : EReal) : Ideal.exp (⊥ - y) = 0 := by
  rw [sub_eq_add_neg, EReal.bot_add]; rfl

/-- The greatest parameter of a padded rule is the greatest of its eleven. -/
theorem top_pad (x : Fin 16 → EReal) (hx : ∀ j : Fin 16, 11 ≤ j.val → x j = ⊥) : top x = top fun k : Fin 11 => x (up (by decide) k) :=
  top_up _ x hx

/-- The softmax of a padded rule is the softmax of its eleven parameters. -/
theorem mass_pad (x : Fin 16 → EReal) (hx : ∀ j : Fin 16, 11 ≤ j.val → x j = ⊥) (k : Fin 11) :
    Ideal.div (Ideal.exp (x (up (by decide) k) - top x)) (∑ j, Ideal.exp (x j - top x)) = mass (fun k : Fin 11 => x (up (by decide) k)) k := by
  rw [sum_up (n := 11) (by decide) (fun j => Ideal.exp (x j - top x)) (fun j hj => by show Ideal.exp (x j - top x) = 0; rw [hx j hj, exp_bot_sub]), top_pad x hx]
  rfl

/-- The unscaled belief as the kernel writes it over sixteen columns, the ones past the tenth masked. -/
theorem raw_pad (q : Fin 16 → EReal) (k : Fin 10) (qc : Fin 10 → EReal) (qo : EReal) (hc : ∀ k : Fin 10, q (up (by decide) k) = qc k) (ho : q 10 = qo)
    (l : Fin 16 → EReal) (hl : ∀ x : Fin 16, l x = if x.val < 10 then q x else ⊥) (M : EReal) (hM : M = max (top l) (q 10)) (N : EReal)
    (hN : N = max ((∑ x, Ideal.exp (l x - M)) - Ideal.ofBits .f32 0x41100000#32 * Ideal.exp (q 10 - M)) tiny) :
    Ideal.div (Ideal.exp (l (up (by decide) k) - M) - Ideal.exp (q 10 - M)) N + Ideal.div (Ideal.exp (q 10 - M)) N * Ideal.ofBits .f32 0x3DCCCCCD#32 = raw qc qo k := by
  have hlk : ∀ k : Fin 10, l (up (by decide) k) = qc k := fun k => (hl _).trans ((if_pos k.isLt).trans (hc k))
  have hge : ∀ x : Fin 16, 10 ≤ x.val → l x = ⊥ := fun x hx => by rw [hl, if_neg (Nat.not_lt.2 hx)]
  have hM' : M = peak qc qo := by rw [hM, ho, top_up (n := 10) (by decide) l hge]; simp only [hlk]; rfl
  have hN' : N = total qc qo := by
    rw [hN, sum_up (n := 10) (by decide) (fun x => Ideal.exp (l x - M)) (fun x hx => by show Ideal.exp (l x - M) = 0; rw [hge x hx, exp_bot_sub])]
    simp only [hlk, ho, hM']; rfl
  rw [hN', hM', hlk, ho]; rfl

end Cert.Belief

end
-- ==== Proof.HostI.lean ====
/-
  What the kernel's host lines hand its pipeline, read at an index.
-/
module

public import proofs.«01_k».proof.Proof.FrameI
public import Idealize.ShloMosaic.Lib.Pointwise
public import proofs.«01_k».proof.Proof.Literal
public import proofs.«01_k».proof.Proof.Belief

@[expose] public section

set_option maxRecDepth 16384

noncomputable section

namespace Cert.KernelIdeal.Host

open Cert.KernelIdeal Cert.KernelIdeal.Gen Cert.KernelIdeal.Frame Cert.KernelIdeal.Body
open Idealize.ShloMosaic Idealize.ShloMosaic.TcCoe
open Idealize.ShloMosaic.Pointwise Cert.Literal

variable (m : (ℓ : Loc nD τ sig) → Buf (Elt Ideal) ℓ) (c : Dev nD)

/-- The rows. -/
abbrev a0 : Vec Ideal S4096x128 .f32 := m (c, Proc.devRef .tc main_arg0)
/-- The literals' thresholds. -/
abbrev a1 : Vec Ideal S8192 .f32 := m (c, Proc.devRef .tc main_arg1)
/-- The rules' mass parameters. -/
abbrev a2 : Vec Ideal S2048x11 .f32 := m (c, Proc.devRef .tc main_arg2)
/-- The literals' features. -/
abbrev a3 : Vec Ideal S8192 .i32 := m (c, Proc.devRef .tc main_arg3)
/-- The literals' comparisons. -/
abbrev a4 : Vec Ideal S8192 .i32 := m (c, Proc.devRef .tc main_arg4)
/-- The literals' rules. -/
abbrev a5 : Vec Ideal S8192 .i32 := m (c, Proc.devRef .tc main_arg5)

/-- Eight runs of 1024 literals, as the windows take them. -/
def runs {e : EltTy} (x : Vec Ideal S8192 e) : Vec Ideal S8x1x1024 e := shapeCast S8x1x1024 x shapeCasts_S8192_S8x1x1024

/-- Each run's rule at one of its places. -/
def edge (x : Vec Ideal S8192 .i32) (k : ℕ) (h : S8x1024.Slices ![0, k] S8x1) : Vec Ideal S1x8 .i32 :=
  broadcastInDim S1x8 ![1] bcast_S8_S1x8_1 (shapeCast S8 (extractStridedSlice S8x1 ![0, k] (shapeCast S8x1024 x shapeCasts_S8192_S8x1024) h) shapeCasts_S8x1_S8)

/-- The table: the first and the last rule of each run. -/
def bands (x : Vec Ideal S8192 .i32) : Vec Ideal S2x8 .i32 :=
  concatenate S2x8 0 [⟨S1x8, edge x 0 slices_S8x1024_S8x1_0_0⟩, ⟨S1x8, edge x 1023 slices_S8x1024_S8x1_0_1023⟩] concatenates_S1x8_S1x8_S2x8_d0

/-- Where the comparison code is `k`. -/
def code (k : BitVec 32) (x : Vec Ideal S8192 .i32) : Vec Ideal S8192 .i1 := cmpi .eq x (broadcastInDim S8192 ![] bcast_S_S8192 (constantI S_ 32 k))

/-- A number at every literal. -/
def every (b : BitVec 32) : Vec Ideal S8192 .f32 := broadcastInDim S8192 ![] bcast_S_S8192 (constant (F := Ideal) S_ .f32 b)

/-- What is left of the rows after one rounding. -/
def rest (x : Vec Ideal S4096x128 .f32) : Vec Ideal S4096x128 .f32 := subf (F := Ideal) x (extf (F := Ideal) .f32 (truncf (F := Ideal) .bf16 x bitsLt_bf16_f32) bitsLt_bf16_f32)

/-- The rows, what is left of them, and what is left of that. -/
def thrice (x : Vec Ideal S4096x128 .f32) : Vec Ideal S4096x384 .bf16 :=
  concatenate S4096x384 1 [⟨S4096x128, (truncf (F := Ideal) .bf16 x bitsLt_bf16_f32 : Vec Ideal S4096x128 .bf16)⟩, ⟨S4096x128, (truncf (F := Ideal) .bf16 (rest x) bitsLt_bf16_f32 : Vec Ideal S4096x128 .bf16)⟩,
    ⟨S4096x128, (truncf (F := Ideal) .bf16 (rest (rest x)) bitsLt_bf16_f32 : Vec Ideal S4096x128 .bf16)⟩] concatenates_S4096x128_S4096x128_S4096x128_S4096x384_d1

/-- The parameters with five columns of `-inf` behind them. -/
def padded (x : Vec Ideal S2048x11 .f32) : Vec Ideal S2048x16 .f32 :=
  pad S2048x16 ![0, 0] ![0, 5] ![0, 0] x (id (constant (F := Ideal) S_ .f32 0xFF800000#32)) pads_S2048x11_S2048x16_000_050 h_S_

/-- The host lines' buffers, as functions of the arguments. -/
theorem host :
    V0 m c (Proc.devRef .tc main_v7) = bands (a5 m c)
    ∧ V0 m c (Proc.devRef .tc main_v29) = thrice (a0 m c)
    ∧ V0 m c (Proc.devRef .tc main_v8) = runs (a3 m c)
    ∧ V0 m c (Proc.devRef .tc main_v9) = runs (a1 m c)
    ∧ V0 m c (Proc.devRef .tc main_v16) = runs (select (code 0#32 (a4 m c)) (every 0x00000000#32) (select (code 1#32 (a4 m c)) (every 0xBF800000#32) (every 0x3F800000#32)))
    ∧ V0 m c (Proc.devRef .tc main_v18) = runs (select (code 0#32 (a4 m c)) (every 0xBF800000#32) (every 0x00000000#32))
    ∧ V0 m c (Proc.devRef .tc main_v20) = runs (select (code 0#32 (a4 m c)) (every 0xB58637BD#32) (every 0x00000000#32))
    ∧ V0 m c (Proc.devRef .tc main_v21) = (shapeCast S8192x1 (a5 m c) shapeCasts_S8192_S8192x1 : Vec Ideal S8192x1 .i32)
    ∧ V0 m c (Proc.devRef .tc main_v30) = padded (a2 m c) := by
  unfold V0
  simp only [opsBefore, List.flatten_cons, List.flatten_nil, List.append_nil, List.cons_append, List.nil_append, hostOps0, hostOps0_1, hostOps0_2, hostOps0_3, hostOps0_4, hostOps0_5, hostOps0_6, hostOps0_7, hostOps0_8, hostOps0_9]
  refine ⟨?_, ?_, ?_, ?_, ?_, ?_, ?_, ?_, ?_⟩ <;> (after_results; rfl)

/-- Literal `q` of run `j`. -/
abbrev lit (j : Fin 8) (q : Fin 1024) : Fin 8192 := ⟨j.val * 1024 + q.val, by have := j.isLt; have := q.isLt; omega⟩

/-- A run holds its literals. -/
theorem runs_apply {e : EltTy} (x : Vec Ideal S8192 e) (j : Fin 8) (q : Fin 1024) : runs x (ix3 j 0 q) = x (ix1 (lit j q)) := by
  pointwise [runs]

/-- The table's first row is the rule of each run's first literal, -/
theorem bands0_apply (x : Vec Ideal S8192 .i32) (j : Fin 8) : bands x (ix2 0 j) = x (ix1 (lit j 0)) := by
  pointwise [bands, edge]; rfl

/-- and its second the rule of each run's last. -/
theorem bands1_apply (x : Vec Ideal S8192 .i32) (j : Fin 8) : bands x (ix2 1 j) = x (ix1 (lit j 1023)) := by
  pointwise [bands, edge]; rfl

/-- The first copy is the rows, -/
theorem thrice_low (x : Vec Ideal S4096x128 .f32) (b : Fin 4096) (f : Fin 128) : thrice x (ix2 b (Fin.castLE (by decide) f)) = (x (ix2 b f) : EReal) := by
  pointwise [thrice, rest]
  exact dif_pos f.isLt

/-- and the two others are nothing, of finite rows. -/
theorem thrice_high (x : Vec Ideal S4096x128 .f32) (b : Fin 4096) (ht : ∀ g, x (ix2 b g) ≠ (⊤ : EReal)) (hb : ∀ g, x (ix2 b g) ≠ (⊥ : EReal)) (f : Fin 384) (hf : 128 ≤ f.val) :
    thrice x (ix2 b f) = (0 : EReal) := by
  pointwise [thrice, rest]
  rw [dif_neg (by omega)]
  split
  · exact EReal.sub_self (ht _) (hb _)
  · rw [EReal.sub_self (ht _) (hb _)]; exact sub_zero _

/-- The padded parameters' first eleven columns are the parameters, -/
theorem padded_low (x : Vec Ideal S2048x11 .f32) (r : Fin 2048) (f : Fin 11) : padded x (ix2 r (Fin.castLE (by decide) f)) = (x (ix2 r f) : EReal) := by
  pointwise [padded]
  exact dif_pos f.isLt

/-- and the others are `-inf`. -/
theorem padded_high (x : Vec Ideal S2048x11 .f32) (r : Fin 2048) (f : Fin 16) (hf : 11 ≤ f.val) : padded x (ix2 r f) = (⊥ : EReal) := by
  pointwise [padded]
  rw [dif_neg (by omega)]
  exact Cert.Belief.start_eq

/-- The first word is chosen where two words agree, the second where they do not. -/
theorem select_eq (w k : BitVec 32) (a b : EReal) : Scalar.select (IntOp.cmpi .eq w k) a b = if w = k then a else b := by
  by_cases h : w = k
  · rw [if_pos h, show IntOp.cmpi .eq w k = 1#1 from congrArg BitVec.ofBool (beq_iff_eq.2 h)]; rfl
  · rw [if_neg h, show IntOp.cmpi .eq w k = 0#1 from congrArg BitVec.ofBool (beq_eq_false_iff_ne.2 h)]; rfl

/-- The pattern of minus one. -/
theorem neg_one : Ideal.ofBits .f32 0xBF800000#32 = -1 := IdealRules.sign_bit.ideal_negOnePat .f32

/-- Flipping the sign bit of the tolerance negates it. -/
theorem neg_tol : Ideal.ofBits .f32 0xB58637BD#32 = -Ideal.ofBits .f32 0x358637BD#32 := by
  simp [Ideal.ofBits, Ideal.ieee]

/-- The first coefficient of each literal. -/
theorem alpha_apply (x : Vec Ideal S8192 .i32) (l : Fin 8192) :
    (select (code 0#32 x) (every 0x00000000#32) (select (code 1#32 x) (every 0xBF800000#32) (every 0x3F800000#32)) : Vec Ideal S8192 .f32) (ix1 l) = coefA (x (ix1 l)) := by
  pointwise [code, every]
  rw [select_eq, select_eq, neg_one]; rfl

/-- The second. -/
theorem beta_apply (x : Vec Ideal S8192 .i32) (l : Fin 8192) :
    (select (code 0#32 x) (every 0xBF800000#32) (every 0x00000000#32) : Vec Ideal S8192 .f32) (ix1 l) = coefB (x (ix1 l)) := by
  pointwise [code, every]
  rw [select_eq, neg_one]; rfl

/-- The bound. -/
theorem gamma_apply (x : Vec Ideal S8192 .i32) (l : Fin 8192) :
    (select (code 0#32 x) (every 0xB58637BD#32) (every 0x00000000#32) : Vec Ideal S8192 .f32) (ix1 l) = coefG (x (ix1 l)) := by
  pointwise [code, every]
  rw [select_eq, neg_tol]; rfl

/-- The column of rules. -/
theorem col_apply (x : Vec Ideal S8192 .i32) (l : Fin 8192) : (shapeCast S8192x1 x shapeCasts_S8192_S8192x1 : Vec Ideal S8192x1 .i32) (ix2 l 0) = x (ix1 l) := by
  pointwise []

/-! ## The windows' blocks -/

/-- The batch block of a grid point. -/
abbrev bat (t : Fin grid0.N) : Fin 2 := grid0.coords t 0
/-- The run of literals of a grid point. -/
abbrev run (t : Fin grid0.N) : Fin 8 := grid0.coords t 1

/-- Row `p` of batch block `a`. -/
abbrev row (a : Fin 2) (p : Fin 2048) : Fin 4096 := ⟨a.val * 2048 + p.val, by have := a.isLt; have := p.isLt; omega⟩

/-- Where a block of rows begins. -/
theorem ix_0 : ∀ t : Fin grid0.N, cc0_transform_0 (grid0.coords t) 0 = (bat t).val ∧ cc0_transform_0 (grid0.coords t) 1 = 0 := by decide +kernel
/-- Where a run begins. -/
theorem ix_1 : ∀ t : Fin grid0.N, cc0_transform_1 (grid0.coords t) 0 = (run t).val ∧ cc0_transform_1 (grid0.coords t) 1 = 0 ∧ cc0_transform_1 (grid0.coords t) 2 = 0 := by decide +kernel
/-- Where a run's column begins. -/
theorem ix_6 : ∀ t : Fin grid0.N, cc0_transform_6 (grid0.coords t) 0 = (run t).val ∧ cc0_transform_6 (grid0.coords t) 1 = 0 := by decide +kernel
/-- The parameters are taken whole. -/
theorem ix_7 : ∀ t : Fin grid0.N, cc0_transform_7 (grid0.coords t) 0 = 0 ∧ cc0_transform_7 (grid0.coords t) 1 = 0 := by decide +kernel

/-- The rows of a point's batch block. -/
theorem x3_apply (t : Fin grid0.N) (p : Fin 2048) (f : Fin 384) : x3 m c t (ix2 p f) = thrice (a0 m c) (ix2 (row (bat t) p) f) := by
  have h : arrs m c 0 = thrice (a0 m c) := (host m c).2.1
  unfold x3
  rw [h]
  refine congrArg (thrice (a0 m c)) (Shape.idx_ext₂ ?_ ?_)
  · refine (Pipeline.Window.rect_emb_val (win0 (adm m 0) 0) t (ix2 p f) 0).trans ?_
    exact congrArg (· * 2048 + p.val) (ix_0 t).1
  · refine (Pipeline.Window.rect_emb_val (win0 (adm m 0) 0) t (ix2 p f) 1).trans ?_
    exact (congrArg (· * 384 + f.val) (ix_0 t).2).trans (show 0 * 384 + f.val = f.val by omega)

/-- A block of an array of runs is the point's run. -/
theorem run_read {e : EltTy} (A : Vec Ideal S8192 e) (t : Fin grid0.N) (E : S1x1x1024.Idx → S8x1x1024.Idx)
    (hE : ∀ y a, (E y a).val = cc0_transform_1 (grid0.coords t) a * S1x1x1024.size a + (y a).val) (q : Fin 1024) :
    runs A (E (ix3 0 0 q)) = A (ix1 (lit (run t) q)) := by
  rw [← runs_apply A (run t) q]
  refine congrArg (runs A) (funext fun a => Fin.ext ((hE _ a).trans ?_))
  match a with
  | ⟨0, _⟩ => exact congrArg (· * 1 + 0) (ix_1 t).1 |>.trans (show (run t).val * 1 + 0 = (run t).val by omega)
  | ⟨1, _⟩ => exact congrArg (· * 1 + 0) (ix_1 t).2.1
  | ⟨2, _⟩ => exact congrArg (· * 1024 + q.val) (ix_1 t).2.2 |>.trans (show 0 * 1024 + q.val = q.val by omega)

/-- The features of a point's run, -/
theorem x4_apply (t : Fin grid0.N) (q : Fin 1024) : x4 m c t (ix3 0 0 q) = a3 m c (ix1 (lit (run t) q)) := by
  have h : arrs m c 1 = runs (a3 m c) := (host m c).2.2.1
  unfold x4
  rw [h]
  exact run_read (a3 m c) t _ (fun y a => Pipeline.Window.rect_emb_val (win0 (adm m 0) 1) t y a) q

/-- their thresholds, -/
theorem x5_apply (t : Fin grid0.N) (q : Fin 1024) : x5 m c t (ix3 0 0 q) = a1 m c (ix1 (lit (run t) q)) := by
  have h : arrs m c 2 = runs (a1 m c) := (host m c).2.2.2.1
  unfold x5
  rw [h]
  exact run_read (a1 m c) t _ (fun y a => Pipeline.Window.rect_emb_val (win0 (adm m 0) 2) t y a) q

/-- their first coefficients, -/
theorem x6_apply (t : Fin grid0.N) (q : Fin 1024) : x6 m c t (ix3 0 0 q) = coefA (a4 m c (ix1 (lit (run t) q))) := by
  have h : arrs m c 3 = runs _ := (host m c).2.2.2.2.1
  unfold x6
  rw [h]
  exact (run_read _ t _ (fun y a => Pipeline.Window.rect_emb_val (win0 (adm m 0) 3) t y a) q).trans (alpha_apply _ _)

/-- their second coefficients, -/
theorem x7_apply (t : Fin grid0.N) (q : Fin 1024) : x7 m c t (ix3 0 0 q) = coefB (a4 m c (ix1 (lit (run t) q))) := by
  have h : arrs m c 4 = runs _ := (host m c).2.2.2.2.2.1
  unfold x7
  rw [h]
  exact (run_read _ t _ (fun y a => Pipeline.Window.rect_emb_val (win0 (adm m 0) 4) t y a) q).trans (beta_apply _ _)

/-- their bounds, -/
theorem x8_apply (t : Fin grid0.N) (q : Fin 1024) : x8 m c t (ix3 0 0 q) = coefG (a4 m c (ix1 (lit (run t) q))) := by
  have h : arrs m c 5 = runs _ := (host m c).2.2.2.2.2.2.1
  unfold x8
  rw [h]
  exact (run_read _ t _ (fun y a => Pipeline.Window.rect_emb_val (win0 (adm m 0) 5) t y a) q).trans (gamma_apply _ _)

/-- and their rules. -/
theorem x9_apply (t : Fin grid0.N) (q : Fin 1024) : x9 m c t (ix2 q 0) = a5 m c (ix1 (lit (run t) q)) := by
  have h : arrs m c 6 = (shapeCast S8192x1 (a5 m c) shapeCasts_S8192_S8192x1 : Vec Ideal S8192x1 .i32) := (host m c).2.2.2.2.2.2.2.1
  refine Eq.trans ?_ (col_apply (a5 m c) (lit (run t) q))
  unfold x9
  rw [h]
  refine congrArg (shapeCast S8192x1 (a5 m c) shapeCasts_S8192_S8192x1 : Vec Ideal S8192x1 .i32) (Shape.idx_ext₂ ?_ ?_)
  · refine (Pipeline.Window.rect_emb_val (win0 (adm m 0) 6) t (ix2 q 0) 0).trans ?_
    exact congrArg (· * 1024 + q.val) (ix_6 t).1
  · refine (Pipeline.Window.rect_emb_val (win0 (adm m 0) 6) t (ix2 q 0) 1).trans ?_
    exact congrArg (· * 1 + 0) (ix_6 t).2

/-- The parameters at every point. -/
theorem x10_apply (t : Fin grid0.N) (r : Fin 2048) (f : Fin 16) : x10 m c t (ix2 r f) = padded (a2 m c) (ix2 r f) := by
  have h : arrs m c 7 = padded (a2 m c) := (host m c).2.2.2.2.2.2.2.2
  unfold x10
  rw [h]
  refine congrArg (padded (a2 m c)) (Shape.idx_ext₂ ?_ ?_)
  · refine (Pipeline.Window.rect_emb_val (win0 (adm m 0) 7) t (ix2 r f) 0).trans ?_
    exact congrArg (· * 2048 + r.val) (ix_7 t).1 |>.trans (show 0 * 2048 + r.val = r.val by omega)
  · refine (Pipeline.Window.rect_emb_val (win0 (adm m 0) 7) t (ix2 r f) 1).trans ?_
    exact congrArg (· * 16 + f.val) (ix_7 t).2 |>.trans (show 0 * 16 + f.val = f.val by omega)

/-- The body looks the table up at its point's run. -/
theorem off_eq : ∀ t : Fin grid0.N, k0_off1 (grid0.coords t) 0 = 0 ∧ k0_off1 (grid0.coords t) 1 = (run t).val ∧ k0_off2 (grid0.coords t) 0 = 1 ∧ k0_off2 (grid0.coords t) 1 = (run t).val := by
  decide +kernel

/-- A look-up reads one entry. -/
theorem word_eq (T : Vec Ideal S2x8 .i32) (off : Fin 2 → ℕ) (inb) (i : Fin 2) (j : Fin 8) (h0 : off 0 = i.val) (h1 : off 1 = j.val) : word T off inb = T (ix2 i j) := by
  unfold word VecWindow.window
  have hy : ∀ y : (⟨2, S1x1.size⟩ : Shape).Idx, (y 0).val = 0 ∧ (y 1).val = 0 := fun y =>
    ⟨Nat.lt_one_iff.1 (y 0).isLt, Nat.lt_one_iff.1 (y 1).isLt⟩
  refine congrArg T (Shape.idx_ext₂ ?_ ?_)
  · exact (congrArg₂ (fun a b => a + 1 * b) h0 (hy _).1)
  · exact (congrArg₂ (fun a b => a + 1 * b) h1 (hy _).2)

/-- The lowest rule of a point's run, -/
theorem word_lo (t : Fin grid0.N) : word (table m c) (k0_off1 (grid0.coords t)) (facts₀.k0_off1_inb (grid0.coords t)) = a5 m c (ix1 (lit (run t) 0)) := by
  have h : table m c = bands (a5 m c) := (host m c).1
  rw [h]
  exact (word_eq _ _ _ 0 (run t) (off_eq t).1 (off_eq t).2.1).trans (bands0_apply _ _)

/-- and the highest. -/
theorem word_hi (t : Fin grid0.N) : word (table m c) (k0_off2 (grid0.coords t)) (facts₀.k0_off2_inb (grid0.coords t)) = a5 m c (ix1 (lit (run t) 1023)) := by
  have h : table m c = bands (a5 m c) := (host m c).1
  rw [h]
  exact (word_eq _ _ _ 1 (run t) (off_eq t).2.2.1 (off_eq t).2.2.2).trans (bands1_apply _ _)

end Cert.KernelIdeal.Host

end
-- ==== Proof.CountI.lean ====
/-
  What one grid point adds to the counts, read at an index.
-/
module

public import proofs.«01_k».proof.Proof.StepI
public import Idealize.ShloMosaic.Lib.Pointwise
public import proofs.«01_k».proof.Proof.Literal

@[expose] public section

set_option maxRecDepth 16384

noncomputable section

namespace Cert.KernelIdeal.Count

open Cert.KernelIdeal Cert.KernelIdeal.Gen Cert.KernelIdeal.Body
open Idealize.ShloMosaic Idealize.ShloMosaic.TcCoe
open Idealize.ShloMosaic.Pointwise Cert.Literal

/-- A batch block's counts start at zero. -/
theorem zero_apply (p r : Fin 2048) : (k0_pay11 (F := Ideal)) (ix2 p r) = (0 : EReal) := by
  pointwise [k0_pay11]

open Classical in
/-- A literal is counted as missed for a row exactly when it does not hold of the row. -/
theorem miss_apply (x3 : Vec Ideal S2048x384 .bf16) (x4 : Vec Ideal S1x1x1024 .i32) (x5 x6 x7 x8 : Vec Ideal S1x1x1024 .f32) (p : Fin 2048) (q : Fin 1024)
    (hz : ∀ x : Fin 384, 128 ≤ x.val → x3 (ix2 p x) = (0 : EReal)) (ht : ∀ x : Fin 384, x3 (ix2 p x) ≠ (⊤ : EReal)) (hb : ∀ x : Fin 384, x3 (ix2 p x) ≠ (⊥ : EReal))
    (w op : BitVec 32) (v : EReal) (hw : x4 (ix3 0 0 q) = w) (hv : x5 (ix3 0 0 q) = v) (h : IntOp.cmpi .sge w 0#32 = 1#1) (h' : IntOp.cmpi .sle w 127#32 = 1#1)
    (hA : x6 (ix3 0 0 q) = coefA op) (hB : x7 (ix3 0 0 q) = coefB op) (hG : x8 (ix3 0 0 q) = coefG op) :
    missOf x3 x4 x5 x6 x7 x8 (ix2 p q) = if holds op (x3 (ix2 p (Fin.castLE (by decide) (feat w)))) v then (0 : EReal) else 1 := by
  pointwise [missOf, k0_pay16, k0_pay13, k0_pay14, k0_pay15, k0_pay12]
  rw [hw, hv, hA, hB, hG, one_hot (fun x => x3 (ix2 p x)) hz w h h']
  have e := miss_iff op (x3 (ix2 p (Fin.castLE (by decide) (feat w)))) v (ht _) (hb _)
  by_cases c : holds op (x3 (ix2 p (Fin.castLE (by decide) (feat w)))) v
  · rw [if_pos c]; exact if_neg fun q => e.1 q c
  · rw [if_neg c]; exact if_pos (e.2 c)

/-- A tile's count for a row and one of its rules. -/
theorem tile_apply (r0 : BitVec 32) (miss : FVec Ideal S2048x1024 .bf16) (l : IVec S1024x1 32) (C : Vec Ideal S2048x256 .f32) (p : Fin 2048) (c : Fin 256) :
    tilePay r0 miss l C (ix2 p c) = (C (ix2 p c) : EReal)
      + ∑ x : Fin 1024, Scalar.select (IntOp.cmpi .eq (l (ix2 x 0)) (IntOp.addi r0 (BitVec.ofNat 32 c.val))) (miss (ix2 p x)) (0 : EReal) := by
  pointwise [tilePay, indic]

/-- A count stays a count, and is zero exactly when it was and none of this point's literals of the rule is missed. -/
theorem tile_zero (off : ℕ) (hoff : off + 256 ≤ 2048) (miss : FVec Ideal S2048x1024 .bf16) (hm : ∀ p q, (0 : EReal) ≤ miss (ix2 p q)) (l : IVec S1024x1 32)
    (C : Vec Ideal S2048x256 .f32) (p : Fin 2048) (c : Fin 256) (hC : (0 : EReal) ≤ C (ix2 p c)) :
    (0 : EReal) ≤ tilePay (BitVec.ofNat 32 off) miss l C (ix2 p c)
      ∧ (tilePay (BitVec.ofNat 32 off) miss l C (ix2 p c) = (0 : EReal)
          ↔ C (ix2 p c) = (0 : EReal) ∧ ∀ q : Fin 1024, (l (ix2 q 0)).toInt = ((off + c.val : ℕ) : ℤ) → miss (ix2 p q) = (0 : EReal)) := by
  rw [tile_apply]
  have hadd : IntOp.addi (BitVec.ofNat 32 off) (BitVec.ofNat 32 c.val) = BitVec.ofNat 32 (off + c.val) := (BitVec.ofNat_add off c.val).symm
  rw [hadd]
  have hc := c.isLt
  have hsel : ∀ q : Fin 1024, Scalar.select (IntOp.cmpi .eq (l (ix2 q 0)) (BitVec.ofNat 32 (off + c.val))) (miss (ix2 p q)) (0 : EReal)
      = if (l (ix2 q 0)).toInt = ((off + c.val : ℕ) : ℤ) then miss (ix2 p q) else 0 := fun q => by
    rw [← toInt_small (off + c.val) (by omega)]
    by_cases e : l (ix2 q 0) = BitVec.ofNat 32 (off + c.val)
    · rw [if_pos (congrArg BitVec.toInt e), show IntOp.cmpi .eq (l (ix2 q 0)) (BitVec.ofNat 32 (off + c.val)) = 1#1 from congrArg BitVec.ofBool (beq_iff_eq.2 e)]; rfl
    · rw [if_neg fun h => e (BitVec.eq_of_toInt_eq h), show IntOp.cmpi .eq (l (ix2 q 0)) (BitVec.ofNat 32 (off + c.val)) = 0#1 from congrArg BitVec.ofBool (beq_eq_false_iff_ne.2 e)]; rfl
  simp only [hsel]
  have hnn : ∀ q ∈ (Finset.univ : Finset (Fin 1024)), (0 : EReal) ≤ if (l (ix2 q 0)).toInt = ((off + c.val : ℕ) : ℤ) then miss (ix2 p q) else 0 := fun q _ => by
    split
    · exact hm p q
    · exact le_rfl
  have hs := Finset.sum_nonneg hnn
  refine ⟨add_nonneg hC hs, ?_⟩
  rw [add_eq_zero_iff_of_nonneg hC hs, Finset.sum_eq_zero_iff_of_nonneg hnn]
  refine and_congr_right fun _ => ⟨fun h q hq => ?_, fun h q _ => ?_⟩
  · have := h q (Finset.mem_univ _); rwa [if_pos hq] at this
  · split
    · next hq => exact h q hq
    · rfl

/-- Of the rules below `n` the counts `C'` are those of `C` with this point's literals `l` and misses `miss` added, and the rest are untouched. -/
def Done (miss : FVec Ideal S2048x1024 .bf16) (l : IVec S1024x1 32) (n : ℕ) (C C' : Vec Ideal S2048x2048 .f32) : Prop :=
  ∀ p r : Fin 2048,
    (r.val < n → (0 : EReal) ≤ C' (ix2 p r)
      ∧ (C' (ix2 p r) = (0 : EReal) ↔ C (ix2 p r) = (0 : EReal) ∧ ∀ q : Fin 1024, (l (ix2 q 0)).toInt = (r.val : ℤ) → miss (ix2 p q) = (0 : EReal)))
    ∧ (n ≤ r.val → C' (ix2 p r) = C (ix2 p r))

/-- Whether the band meets the tile, in numbers. -/
theorem hit_iff (lo hi : BitVec 32) (off : ℕ) (hoff : off + 256 ≤ 2048) :
    tileHit lo hi (BitVec.ofNat 32 off) (BitVec.ofNat 32 (off + 256)) = 1#1 ↔ lo.toInt < ((off + 256 : ℕ) : ℤ) ∧ ((off : ℕ) : ℤ) ≤ hi.toInt := by
  rw [← toInt_small (off + 256) (by omega), ← toInt_small off (by omega)]
  have key : ∀ a b : BitVec 1, Scalar.cmpi .ne (Scalar.extui (Scalar.andi a b) : BitVec 32) 0#32 = 1#1 ↔ a = 1#1 ∧ b = 1#1 := by decide
  have hb : ∀ p : Prop, ∀ _ : Decidable p, BitVec.ofBool (decide p) = 1#1 ↔ p := fun p _ => by by_cases hp : p <;> simp [hp]
  unfold tileHit
  rw [key]
  exact and_congr (hb _ _) (hb _ _)

/-- One tile's turn. -/
theorem tile_done (lo hi : BitVec 32) (off : ℕ) (hoff : off + 256 ≤ 2048) (inb : ∀ a, (![0, off] : Fin 2 → ℕ) a + S2048x256.size a ≤ S2048x2048.size a)
    (miss : FVec Ideal S2048x1024 .bf16) (hm : ∀ p q, (0 : EReal) ≤ miss (ix2 p q)) (l : IVec S1024x1 32) (hlo : ∀ q : Fin 1024, lo.toInt ≤ (l (ix2 q 0)).toInt)
    (hhi : ∀ q : Fin 1024, (l (ix2 q 0)).toInt ≤ hi.toInt) (C C' : Vec Ideal S2048x2048 .f32) (hC : ∀ p r, (0 : EReal) ≤ C (ix2 p r)) (h : Done miss l off C C') :
    Done miss l (off + 256) C (tileAcc lo hi off inb (BitVec.ofNat 32 off) (BitVec.ofNat 32 (off + 256)) miss l C') := by
  intro p r
  obtain ⟨h1, h2⟩ := h p r
  unfold tileAcc
  by_cases hit : tileHit lo hi (BitVec.ofNat 32 off) (BitVec.ofNat 32 (off + 256)) = 1#1
  · rw [if_pos hit]
    by_cases hr : off ≤ r.val ∧ r.val < off + 256
    · refine ⟨fun _ => ?_, fun hge => absurd hr.2 (by omega)⟩
      have hput : VecWindow.put (s := S2048x2048) C' ![0, off] S2048x256.size
          (tilePay (BitVec.ofNat 32 off) miss l (VecWindow.window (s := S2048x2048) C' ![0, off] S2048x256.size inb)) (ix2 p r)
          = tilePay (BitVec.ofNat 32 off) miss l (VecWindow.window (s := S2048x2048) C' ![0, off] S2048x256.size inb) (ix2 p (⟨r.val - off, by omega⟩ : Fin 256)) := by
        unfold VecWindow.put
        rw [dif_pos (Fin.forall_fin_two.2 ⟨⟨Nat.zero_le _, by show p.val < 0 + 2048; have := p.isLt; omega⟩, hr⟩)]
        congr 1
        refine funext (Fin.forall_fin_two.2 ⟨Fin.ext ?_, Fin.ext ?_⟩)
        · show p.val - 0 = p.val; omega
        · rfl
      have hwin : VecWindow.window (s := S2048x2048) C' ![0, off] S2048x256.size inb (ix2 p (⟨r.val - off, by omega⟩ : Fin 256)) = C (ix2 p r) := by
        rw [← h2 hr.1]
        unfold VecWindow.window
        congr 1
        refine funext (Fin.forall_fin_two.2 ⟨Fin.ext ?_, Fin.ext ?_⟩)
        · show 0 + 1 * p.val = p.val; omega
        · show off + 1 * (r.val - off) = r.val; omega
      rw [hput]
      have := tile_zero off hoff miss hm l (VecWindow.window (s := S2048x2048) C' ![0, off] S2048x256.size inb) p ⟨r.val - off, by omega⟩ (by rw [hwin]; exact hC p r)
      rw [hwin, show off + (r.val - off) = r.val by omega] at this
      exact this
    · have hput : VecWindow.put (s := S2048x2048) C' ![0, off] S2048x256.size
          (tilePay (BitVec.ofNat 32 off) miss l (VecWindow.window (s := S2048x2048) C' ![0, off] S2048x256.size inb)) (ix2 p r) = C' (ix2 p r) := by
        unfold VecWindow.put
        exact dif_neg fun hall => hr (hall 1)
      rw [hput]
      exact ⟨fun hlt => h1 (by omega), fun hge => h2 (by omega)⟩
  · rw [if_neg hit]
    rw [hit_iff lo hi off hoff] at hit
    refine ⟨fun hlt => ?_, fun hge => h2 (by omega)⟩
    by_cases hr : r.val < off
    · exact h1 hr
    · rw [h2 (by omega)]
      refine ⟨hC p r, ⟨fun hz => ⟨hz, fun q hq => ?_⟩, fun hz => hz.1⟩⟩
      refine absurd ?_ hit
      have a := hlo q; have b := hhi q
      rw [hq] at a b
      constructor <;> omega

/-- All eight tiles' turns. -/
theorem tiles_done (lo hi : BitVec 32) (miss : FVec Ideal S2048x1024 .bf16) (hm : ∀ p q, (0 : EReal) ≤ miss (ix2 p q)) (l : IVec S1024x1 32)
    (hlo : ∀ q : Fin 1024, lo.toInt ≤ (l (ix2 q 0)).toInt) (hhi : ∀ q : Fin 1024, (l (ix2 q 0)).toInt ≤ hi.toInt) (C : Vec Ideal S2048x2048 .f32)
    (hC : ∀ p r, (0 : EReal) ≤ C (ix2 p r)) : Done miss l 2048 C (tiles lo hi miss l C) := by
  have h0 : Done miss l 0 C C := fun p r => ⟨fun h => absurd h (Nat.not_lt_zero _), fun _ => rfl⟩
  have st := fun off hoff inb C' => tile_done lo hi off hoff inb miss hm l hlo hhi C C' hC
  exact st 1792 (by decide) _ _ (st 1536 (by decide) _ _ (st 1280 (by decide) _ _ (st 1024 (by decide) _ _ (st 768 (by decide) _ _
    (st 512 (by decide) _ _ (st 256 (by decide) _ _ (st 0 (by decide) _ _ h0)))))))

end Cert.KernelIdeal.Count

end
-- ==== Proof.FinI.lean ====
/-
  The kernel's last step read at an index: the finished counts and the mass parameters become the pignistic belief.
-/
module

public import proofs.«01_k».proof.Proof.StepI
public import Idealize.ShloMosaic.Lib.Pointwise
public import proofs.«01_k».proof.Proof.Belief

@[expose] public section

set_option maxRecDepth 16384

noncomputable section

namespace Cert.KernelIdeal.Finish

open Cert.KernelIdeal Cert.KernelIdeal.Gen Cert.KernelIdeal.Body
open Idealize.ShloMosaic Idealize.ShloMosaic.TcCoe
open Idealize.ShloMosaic.Pointwise Cert.Belief

/-- The kernel's named constant stands for minus infinity. -/
theorem named_mask : (Named.named κ "mask" 0xF149F2CA#32 : Ideal .f32) = (⊥ : EReal) :=
  IdealRules.named_const.ideal_named_scalar _ _ _ _ rfl

/-- A rule fires for a row when nothing was counted against it. -/
theorem fired_apply (C : Vec Ideal S2048x2048 .f32) (p r : Fin 2048) : k0_pay7 C (ix2 p r) = (if C (ix2 p r) = (0 : EReal) then (1 : EReal) else 0) := by
  pointwise [k0_pay7]

/-- The logarithms of a rule's commonalities, class by class. -/
theorem logs_class (x : Vec Ideal S2048x16 .f32) (r : Fin 2048) (hx : ∀ j : Fin 16, 11 ≤ j.val → x (ix2 r j) = (⊥ : EReal)) (k : Fin 10) :
    k0_pay8 x (ix2 r (up (by decide) k)) = lnComm (fun j => x (ix2 r (up (by decide) j))) k := by
  pointwise [k0_pay8]
  rw [slt_lt _ k.isLt, sum_pick]
  have hm := mass_pad (fun j => x (ix2 r j)) hx
  have h1 := hm k.castSucc
  have h2 := hm 10
  rw [lnComm, ← h1, ← h2]
  rfl

/-- The logarithm of a rule's mass of the whole frame, in the column after the classes. -/
theorem logs_frame (x : Vec Ideal S2048x16 .f32) (r : Fin 2048) (hx : ∀ j : Fin 16, 11 ≤ j.val → x (ix2 r j) = (⊥ : EReal)) :
    k0_pay8 x (ix2 r (10 : Fin 16)) = lnOm (fun j => x (ix2 r (up (by decide) j))) := by
  pointwise [k0_pay8]
  rw [sum_pick]
  have h2 := mass_pad (fun j => x (ix2 r j)) hx 10
  rw [lnOm, ← h2]
  rfl

/-- The unscaled belief of a row in a column. -/
theorem bel_apply (f : FVec Ideal S2048x2048 .bf16) (P : FVec Ideal S2048x16 .bf16) (p : Fin 2048) (qc : Fin 10 → EReal) (qo : EReal)
    (hc : ∀ k : Fin 10, ∑ r, f (ix2 p r) * P (ix2 r (up (by decide) k)) = qc k) (ho : ∑ r, f (ix2 p r) * P (ix2 r (10 : Fin 16)) = qo) (k : Fin 16) :
    k0_pay9 f P (ix2 p k) = if h : k.val < 10 then raw qc qo ⟨k.val, h⟩ else (0 : EReal) := by
  pointwise [k0_pay9]
  rw [named_mask]
  by_cases h : k.val < 10
  · rw [dif_pos h, select_lt k, if_pos h, sum_pick (fun x => ∑ r, f (ix2 p r) * P (ix2 r x))]
    exact raw_pad (fun x => ∑ r, f (ix2 p r) * P (ix2 r x)) ⟨k.val, h⟩ qc qo hc ho _ (fun x => select_lt x _ _) _ rfl _ rfl
  · rw [dif_neg h, select_lt k, if_neg h]

/-- What the last point of a batch block writes, class by class: the belief the specification asks for. -/
theorem out_apply (C : Vec Ideal S2048x2048 .f32) (x : Vec Ideal S2048x16 .f32) (hx : ∀ (r : Fin 2048) (j : Fin 16), 11 ≤ j.val → x (ix2 r j) = (⊥ : EReal))
    (p : Fin 2048) (k : Fin 10) :
    outOf C x (ix2 p (up (by decide) k)) = answer (fun r => if C (ix2 p r) = (0 : EReal) then 1 else 0) (fun r j => x (ix2 r (up (by decide) j))) k := by
  have hb := bel_apply (k0_pay7 C) (k0_pay8 x) p (fun j => ∑ r, (if C (ix2 p r) = (0 : EReal) then 1 else 0) * lnComm (fun j => x (ix2 r (up (by decide) j))) j)
    (∑ r, (if C (ix2 p r) = (0 : EReal) then 1 else 0) * lnOm (fun j => x (ix2 r (up (by decide) j))))
    (fun k => Finset.sum_congr rfl fun r _ => by rw [fired_apply, logs_class x r (hx r) k])
    (Finset.sum_congr rfl fun r _ => by rw [fired_apply, logs_frame x r (hx r)])
  unfold outOf
  pointwise [k0_pay6, k0_pay10]
  rw [sum_up (n := 10) (by decide) (fun y => k0_pay9 (k0_pay7 C) (k0_pay8 x) (ix2 p y)) (fun y hy => by
    show k0_pay9 (k0_pay7 C) (k0_pay8 x) (ix2 p y) = _; rw [hb, dif_neg (Nat.not_lt.2 hy)])]
  exact congrArg₂ Ideal.div ((hb _).trans (dif_pos k.isLt)) (congrArg (max · tiny) (Finset.sum_congr rfl fun j _ => (hb _).trans (dif_pos j.isLt)))

end Cert.KernelIdeal.Finish

end
-- ==== Proof.InvI.lean ====
/-
  What the kernel's counts are after every grid point, and its output array at the end.
-/
module

public import proofs.«01_k».proof.Proof.HostI
public import proofs.«01_k».proof.Proof.CountI
public import proofs.«01_k».proof.Proof.FinI
public import proofs.«01_k».proof.Proof.RunI

@[expose] public section

set_option maxRecDepth 16384

noncomputable section

namespace Cert.KernelIdeal.Counts

open Cert.KernelIdeal Cert.KernelIdeal.Gen Cert.KernelIdeal.Frame Cert.KernelIdeal.Body Cert.KernelIdeal.Host Cert.KernelIdeal.Count Cert.KernelIdeal.Finish
open Idealize.ShloMosaic Idealize.ShloMosaic.TcCoe
open Idealize.ShloMosaic.Pointwise Cert.Literal Cert.Belief

variable (m : (ℓ : Loc nD τ sig) → Buf (Elt Ideal) ℓ) (c : Dev nD)

/-- What the claim asks of the arguments: finite rows, features in range, literals in the order of their rules. -/
structure Drawn : Prop where
  /-- No entry of the rows is `inf`, -/
  ne_top : ∀ b g, a0 m c (ix2 b g) ≠ (⊤ : EReal)
  /-- nor `-inf`; -/
  ne_bot : ∀ b g, a0 m c (ix2 b g) ≠ (⊥ : EReal)
  /-- no feature is below the first, -/
  low : ∀ l, IntOp.cmpi .sge (a3 m c (ix1 l)) 0#32 = 1#1
  /-- nor above the last; -/
  high : ∀ l, IntOp.cmpi .sle (a3 m c (ix1 l)) 127#32 = 1#1
  /-- and no literal's rule is below an earlier literal's. -/
  sorted : ∀ l l' : Fin 8192, l ≤ l' → (a5 m c (ix1 l)).toInt ≤ (a5 m c (ix1 l')).toInt

/-- Whether literal `l` holds of row `b`. -/
def good (b : Fin 4096) (l : Fin 8192) : Prop :=
  holds (a4 m c (ix1 l)) (a0 m c (ix2 b (feat (a3 m c (ix1 l))))) (a1 m c (ix1 l))

/-- Whether every literal of rule `r` among the first `n` holds of row `b`. -/
def sofar (n : ℕ) (b : Fin 4096) (r : Fin 2048) : Prop :=
  ∀ l : Fin 8192, l.val < n → (a5 m c (ix1 l)).toInt = (r.val : ℤ) → good m c b l

/-- The misses of a point. -/
abbrev missAt (t : Fin grid0.N) : FVec Ideal S2048x1024 .bf16 := missOf (x3 m c t) (x4 m c t) (x5 m c t) (x6 m c t) (x7 m c t) (x8 m c t)

open Classical in
/-- A point's miss for a row and a literal says that the literal fails. -/
theorem missAt_apply (h : Drawn m c) (t : Fin grid0.N) (p : Fin 2048) (q : Fin 1024) :
    missAt m c t (ix2 p q) = if good m c (row (bat t) p) (lit (run t) q) then (0 : EReal) else 1 := by
  have hx : x3 m c t (ix2 p (Fin.castLE (by decide) (feat (a3 m c (ix1 (lit (run t) q)))))) = a0 m c (ix2 (row (bat t) p) (feat (a3 m c (ix1 (lit (run t) q))))) :=
    (x3_apply m c t p _).trans (thrice_low _ _ _)
  have hz : ∀ f : Fin 384, 128 ≤ f.val → x3 m c t (ix2 p f) = (0 : EReal) := fun f hf =>
    (x3_apply m c t p f).trans (thrice_high _ _ (h.ne_top _) (h.ne_bot _) f hf)
  have hfin : ∀ f : Fin 384, x3 m c t (ix2 p f) ≠ (⊤ : EReal) ∧ x3 m c t (ix2 p f) ≠ (⊥ : EReal) := fun f => by
    by_cases hf : 128 ≤ f.val
    · rw [hz f hf]; exact ⟨EReal.zero_ne_top, EReal.zero_ne_bot⟩
    · have e : x3 m c t (ix2 p f) = a0 m c (ix2 (row (bat t) p) ⟨f.val, by omega⟩) := (x3_apply m c t p f).trans (thrice_low (a0 m c) (row (bat t) p) ⟨f.val, by omega⟩)
      rw [e]; exact ⟨h.ne_top _ _, h.ne_bot _ _⟩
  have := miss_apply (x3 m c t) (x4 m c t) (x5 m c t) (x6 m c t) (x7 m c t) (x8 m c t) p q hz (fun f => (hfin f).1) (fun f => (hfin f).2)
    _ _ _ (x4_apply m c t q) (x5_apply m c t q) (h.low _) (h.high _) (x6_apply m c t q) (x7_apply m c t q) (x8_apply m c t q)
  rw [hx] at this
  exact this

/-- The counts a point starts from: none at a batch block's first point, else those it finds. -/
def base (t : Fin grid0.N) (C : Vec Ideal S2048x2048 .f32) : Vec Ideal S2048x2048 .f32 :=
  if Scalar.cmpi .ne (Scalar.extui (Scalar.cmpi .eq (BitVec.ofNat 32 (grid0.coords t 1).val) 0#32) : BitVec 32) 0#32 = 1#1 then k0_pay11 (F := Ideal) else C

/-- A point adds its run's misses to the counts it starts from. -/
theorem stepAt_done (h : Drawn m c) (t : Fin grid0.N) (C : Vec Ideal S2048x2048 .f32) (hC : ∀ p r, (0 : EReal) ≤ base t C (ix2 p r)) (p r : Fin 2048) :
    (0 : EReal) ≤ stepAt m c t C (ix2 p r)
    ∧ (stepAt m c t C (ix2 p r) = (0 : EReal) ↔ base t C (ix2 p r) = (0 : EReal)
      ∧ ∀ q : Fin 1024, (a5 m c (ix1 (lit (run t) q))).toInt = (r.val : ℤ) → good m c (row (bat t) p) (lit (run t) q)) := by
  have hm : ∀ p q, missAt m c t (ix2 p q) = (0 : EReal) ↔ good m c (row (bat t) p) (lit (run t) q) := fun p q => by
    classical
    rw [missAt_apply m c h]; split <;> simp [*]
  have hm0 : ∀ p q, (0 : EReal) ≤ missAt m c t (ix2 p q) := fun p q => by
    classical
    rw [missAt_apply m c h]; split
    · exact le_rfl
    · exact zero_le_one
  have hs := fun q => x9_apply m c t q
  have he : stepAt m c t C = tiles (word (table m c) (k0_off1 (grid0.coords t)) (facts₀.k0_off1_inb (grid0.coords t))) (word (table m c) (k0_off2 (grid0.coords t)) (facts₀.k0_off2_inb (grid0.coords t)))
    (missAt m c t) (x9 m c t) (base t C) := by
    unfold stepAt step base missAt
    rw [shapeCast_self, show (0 : Dev nD) = c from Subsingleton.elim _ _]
  have hd := tiles_done (word (table m c) (k0_off1 (grid0.coords t)) (facts₀.k0_off1_inb (grid0.coords t))) (word (table m c) (k0_off2 (grid0.coords t)) (facts₀.k0_off2_inb (grid0.coords t)))
    (missAt m c t) hm0 (x9 m c t)
    (fun q => by rw [word_lo, hs]; exact h.sorted _ _ (Fin.mk_le_mk.2 (Nat.add_le_add_left (Nat.zero_le _) _)))
    (fun q => by rw [word_hi, hs]; exact h.sorted _ _ (Fin.mk_le_mk.2 (Nat.add_le_add_left (Nat.le_of_lt_succ q.isLt) _))) (base t C) hC p r
  rw [he]
  refine ⟨(hd.1 r.isLt).1, (hd.1 r.isLt).2.trans (and_congr_right fun _ => forall_congr' fun q => ?_)⟩
  rw [hs, hm]

/-- A batch block's first point is its run 0's. -/
theorem base_first : ∀ t : Fin grid0.N, (Scalar.cmpi .ne (Scalar.extui (Scalar.cmpi .eq (BitVec.ofNat 32 (grid0.coords t 1).val) 0#32) : BitVec 32) 0#32 = 1#1) ↔ (run t).val = 0 := by
  decide +kernel

/-- Every other point follows the point of the run before, in the same batch block. -/
theorem pred_point : ∀ t : Fin grid0.N, (run t).val ≠ 0 → ∃ s : Fin grid0.N, s.val + 1 = t.val ∧ bat s = bat t ∧ (run s).val + 1 = (run t).val := by
  decide +kernel

/-- The counts after a point: zero exactly for the rules every literal of which, so far, holds of the row. -/
theorem cnt_inv (h : Drawn m c) : ∀ (n : ℕ) (t : Fin grid0.N), t.val = n → ∀ p r : Fin 2048,
    (0 : EReal) ≤ cnt m c (n + 1) (ix2 p r) ∧ (cnt m c (n + 1) (ix2 p r) = (0 : EReal) ↔ sofar m c ((run t).val * 1024 + 1024) (row (bat t) p) r) := by
  intro n
  induction n using Nat.strong_induction_on with
  | _ n ih =>
    intro t ht p r
    subst ht
    have hc : cnt m c (t.val + 1) = stepAt m c t (cnt m c t.val) := by rw [cnt, dif_pos t.isLt]
    rw [hc]
    -- the literals of this run, by their place in it
    have split : ∀ b : Fin 4096, sofar m c ((run t).val * 1024 + 1024) b r
        ↔ sofar m c ((run t).val * 1024) b r ∧ ∀ q : Fin 1024, (a5 m c (ix1 (lit (run t) q))).toInt = (r.val : ℤ) → good m c b (lit (run t) q) := fun b =>
      ⟨fun hs => ⟨fun l hl => hs l (by omega), fun q => hs (lit (run t) q) (by show (run t).val * 1024 + q.val < _; have := q.isLt; omega)⟩,
        fun hs l hl hr => by
          by_cases hlo : l.val < (run t).val * 1024
          · exact hs.1 l hlo hr
          · have e : l = lit (run t) ⟨l.val - (run t).val * 1024, by omega⟩ := Fin.ext (by show l.val = (run t).val * 1024 + (l.val - (run t).val * 1024); omega)
            rw [e] at hr ⊢
            exact hs.2 _ hr⟩
    by_cases hr : (run t).val = 0
    · have hb : base t (cnt m c t.val) = k0_pay11 (F := Ideal) := if_pos ((base_first t).2 hr)
      have hz : ∀ p r, base t (cnt m c t.val) (ix2 p r) = (0 : EReal) := fun p r => by rw [hb]; exact zero_apply p r
      have hs := stepAt_done m c h t (cnt m c t.val) (fun p r => le_of_eq (hz p r).symm) p r
      refine ⟨hs.1, hs.2.trans ((and_congr ?_ Iff.rfl).trans (split _).symm)⟩
      exact ⟨fun _ l hl => absurd hl (by omega), fun _ => hz p r⟩
    · obtain ⟨s, hst, hbat, hrun⟩ := pred_point t hr
      have hb : base t (cnt m c t.val) = cnt m c t.val := if_neg fun q => hr ((base_first t).1 q)
      have hi := ih s.val (by omega) s rfl
      rw [hst] at hi
      have hs := stepAt_done m c h t (cnt m c t.val) (fun p r => by rw [hb]; exact (hi p r).1) p r
      refine ⟨hs.1, hs.2.trans ((and_congr ?_ Iff.rfl).trans (split _).symm)⟩
      rw [hb, (hi p r).2, hbat, ← hrun, Nat.add_mul, Nat.one_mul]

/-! ## The output array -/

/-- Where an output block begins. -/
theorem ix_8 : ∀ t : Fin grid0.N, cc0_transform_8 (grid0.coords t) 0 = (bat t).val ∧ cc0_transform_8 (grid0.coords t) 1 = 0 := by decide +kernel

/-- An output block is written back at the batch block's last run alone. -/
theorem flush_last : ∀ t : Fin grid0.N, Pipeline.Window.flushOf grid0 true cc0_transform_8 t = decide ((run t).val = 7) := by decide +kernel

/-- Every batch block has a last run, -/
theorem last_point : ∀ a : Fin 2, ∃ t : Fin grid0.N, bat t = a ∧ (run t).val = 7 := by decide +kernel

/-- and only one. -/
theorem last_unique : ∀ t s : Fin grid0.N, bat t = bat s → (run t).val = 7 → (run s).val = 7 → t = s := by decide +kernel

/-- A batch block's last point. -/
def lastOf (a : Fin 2) : Fin grid0.N := (last_point a).choose

/-- What the output array ends holding: each batch block's rows as its last point leaves them. -/
def final : Vec Ideal S4096x16 .f32 := fun i =>
  outAt m c (lastOf ⟨(i 0).val / 2048, by have := (i 0).isLt; change _ < 4096 at this; omega⟩) (ix2 ⟨(i 0).val % 2048, Nat.mod_lt _ (by decide)⟩ (i 1))

/-- The array under the last point's block is what that point leaves. -/
theorem final_apply (t : Fin grid0.N) (h : (run t).val = 7) (p : Fin 2048) (f : Fin 16) : final m c (ix2 (row (bat t) p) f) = outAt m c t (ix2 p f) := by
  have hp := p.isLt
  have e1 : (⟨((bat t).val * 2048 + p.val) / 2048, by have := (bat t).isLt; omega⟩ : Fin 2) = bat t := Fin.ext (by show ((bat t).val * 2048 + p.val) / 2048 = (bat t).val; omega)
  have e2 : (⟨((bat t).val * 2048 + p.val) % 2048, Nat.mod_lt _ (by decide)⟩ : Fin 2048) = p := Fin.ext (by show ((bat t).val * 2048 + p.val) % 2048 = p.val; omega)
  have e3 : lastOf (bat t) = t := last_unique _ _ (last_point (bat t)).choose_spec.1 (last_point (bat t)).choose_spec.2 h
  show outAt m c (lastOf ⟨((bat t).val * 2048 + p.val) / 2048, _⟩) (ix2 ⟨((bat t).val * 2048 + p.val) % 2048, _⟩ f) = _
  rw [e1, e2, e3]

/-- Where an element of an output block sits. -/
theorem out_emb (t : Fin grid0.N) (p : Fin 2048) (f : Fin 16) : ((win0 (adm m 0) 8).blk t).view.emb (ix2 p f) = ix2 (row (bat t) p) f := by
  refine Shape.idx_ext₂ ?_ ?_
  · refine (Pipeline.Window.rect_emb_val (win0 (adm m 0) 8) t (ix2 p f) 0).trans ?_
    exact congrArg (· * 2048 + p.val) (ix_8 t).1
  · refine (Pipeline.Window.rect_emb_val (win0 (adm m 0) 8) t (ix2 p f) 1).trans ?_
    exact congrArg (· * 16 + f.val) (ix_8 t).2 |>.trans (show 0 * 16 + f.val = f.val by omega)

/-- An index of a two-axis array is a row and a column. -/
theorem at_pair {a b : ℕ} (y : (⟨2, ![a, b]⟩ : Shape).Idx) : ∃ (p : Fin a) (f : Fin b), y = ix2 p f := ⟨y 0, y 1, eq_ix2 y⟩

/-- The output array ends holding it. -/
theorem arrEnd_eq : arrEnd m c = final m c := by
  refine (dats m 0 c).arrAt_eq_of_cover 8 (final m c) (fun t ht => ?_) (fun i => ?_)
  · have h7 : (run t).val = 7 := of_decide_eq_true ((flush_last t).symm.trans ht)
    funext y
    obtain ⟨p, f, rfl⟩ := at_pair y
    refine (final_apply m c t h7 p f).symm.trans ?_
    exact congrArg (final m c) (out_emb m t p f).symm
  · obtain ⟨b, f, rfl⟩ := at_pair i
    have hb := b.isLt
    obtain ⟨t, ht, h7⟩ := last_point ⟨b.val / 2048, by omega⟩
    refine ⟨t, (flush_last t).trans (decide_eq_true h7), ?_⟩
    have e : row (bat t) ⟨b.val % 2048, Nat.mod_lt _ (by decide)⟩ = b := Fin.ext (by show (bat t).val * 2048 + b.val % 2048 = b.val; rw [ht]; show b.val / 2048 * 2048 + b.val % 2048 = b.val; omega)
    have := ((win0 (adm m 0) 8).blk t).view.emb_mem_set (ix2 ⟨b.val % 2048, Nat.mod_lt _ (by decide)⟩ f)
    rw [out_emb, e] at this
    exact this

open Classical in
/-- What a batch block's last point leaves: for each row the belief of the rules every literal of which holds of it. -/
theorem outAt_apply (h : Drawn m c) (t : Fin grid0.N) (h7 : (run t).val = 7) (p : Fin 2048) (k : Fin 10) :
    outAt m c t (ix2 p (up (by decide) k))
      = answer (fun r => if ∀ l : Fin 8192, (a5 m c (ix1 l)).toInt = (r.val : ℤ) → good m c (row (bat t) p) l then (1 : EReal) else 0) (fun r j => a2 m c (ix2 r j)) k := by
  have hf : (fun r => if cnt m c (t.val + 1) (ix2 p r) = (0 : EReal) then (1 : EReal) else 0)
      = fun r => if ∀ l : Fin 8192, (a5 m c (ix1 l)).toInt = (r.val : ℤ) → good m c (row (bat t) p) l then (1 : EReal) else 0 :=
    funext fun r => if_congr ((cnt_inv m c h t.val t rfl p r).2.trans
      ⟨fun q l => q l (by rw [h7]; exact l.isLt), fun q l _ => q l⟩) rfl rfl
  have hp : (fun (r : Fin 2048) (j : Fin 11) => (x10 m c t (ix2 r (up (by decide) j)) : EReal)) = fun r j => a2 m c (ix2 r j) :=
    funext fun r => funext fun j => (x10_apply m c t r _).trans (padded_low _ r j)
  unfold outAt
  refine (out_apply _ _ (fun r j hj => (x10_apply m c t r j).trans (padded_high _ r j hj)) p k).trans ?_
  rw [← hf, ← hp]

/-- The kernel's result is a part of its output array. -/
theorem slice_apply (A : Vec Ideal S4096x16 .f32) (b : Fin 4096) (k : Fin 10) :
    extractStridedSlice S4096x10 ![0, 0] A slices_S4096x16_S4096x10_0_0 (ix2 b k) = A (ix2 b (up (by decide) k)) := by
  pointwise []; rfl

open Classical in
/-- The kernel's result: for each row the belief of the rules every literal of which holds of it. -/
theorem result_apply (h : Drawn m c) (b : Fin 4096) (k : Fin 10) :
    extractStridedSlice S4096x10 ![0, 0] (arrEnd m c) slices_S4096x16_S4096x10_0_0 (ix2 b k)
      = answer (fun r => if ∀ l : Fin 8192, (a5 m c (ix1 l)).toInt = (r.val : ℤ) → good m c b l then (1 : EReal) else 0) (fun r j => a2 m c (ix2 r j)) k := by
  have hb := b.isLt
  obtain ⟨t, ht, h7⟩ := last_point ⟨b.val / 2048, by omega⟩
  obtain ⟨p, hp⟩ : ∃ p : Fin 2048, b = row (bat t) p :=
    ⟨⟨b.val % 2048, Nat.mod_lt _ (by decide)⟩, Fin.ext (by show b.val = (bat t).val * 2048 + b.val % 2048; rw [ht]; show b.val = b.val / 2048 * 2048 + b.val % 2048; omega)⟩
  rw [slice_apply, arrEnd_eq, hp]
  exact (final_apply m c t h7 p _).trans (outAt_apply m c h t h7 p k)

end Cert.KernelIdeal.Counts

end
-- ==== Proof.RefFin.lean ====
/-
  The reference's last steps read at an index: from which rules fire and the rules' parameters to the pignistic belief.
-/
module

public import proofs.«01_k».proof.Proof.Gen.ReferenceIdeal.Read
public import Idealize.ShloMosaic.Lib.Pointwise
public import proofs.«01_k».proof.Proof.Belief

@[expose] public section

set_option maxRecDepth 16384

noncomputable section

namespace Cert.ReferenceIdeal.Finish

open Cert.ReferenceIdeal Cert.ReferenceIdeal.Gen Cert.ReferenceIdeal.Read
open Idealize.ShloMosaic Idealize.ShloMosaic.TcCoe
open Idealize.ShloMosaic.Pointwise Cert.Belief

variable (x0 : Vec Ideal S4096x128 .f32) (x1 : Vec Ideal S8192 .f32) (x2 : Vec Ideal S2048x11 .f32) (x3 x4 x5 : Vec Ideal S8192 .i32)

/-- The softmax masses. -/
theorem mass_apply (r : Fin 2048) (k : Fin 11) : val_main_v36 x2 (ix2 r k) = mass (fun j => x2 (ix2 r j)) k := by
  pointwise [val_main_v36, val_main_v35, val_main_v34, val_main_v33, val_main_cst_6, val_main_v32, val_main_v31, val_main_v30, val_main_v29, val_main_v28, val_main_v27, val_main_cst_5, val_main_v26, val_main_cst_4]
  have h := max_start_top fun j => x2 (ix2 r j)
  unfold top at h
  rw [h]; rfl

/-- The logarithms of the commonalities. -/
theorem lnComm_apply (r : Fin 2048) (k : Fin 10) : val_main_v42 x2 (ix2 r k) = lnComm (fun j => x2 (ix2 r j)) k := by
  pointwise [val_main_v42, val_main_v41, val_main_call4_v1, val_main_call4_v0, val_main_cst_7, val_main_v40, val_main_v39, val_main_v38, val_main_v37]
  rw [mass_apply, mass_apply, max_comm (id (constant (F := Ideal) S_ .f32 0x2B8CBCCC#32) ix0)]; rfl

/-- The logarithm of the mass of the whole frame. -/
theorem lnOm_apply (r : Fin 2048) : val_main_v46 x2 (ix1 r) = lnOm (fun j => x2 (ix2 r j)) := by
  pointwise [val_main_v46, val_main_v45, val_main_call5_v1, val_main_call5_v0, val_main_cst_8, val_main_v44, val_main_v43]
  rw [mass_apply, max_comm (id (constant (F := Ideal) S_ .f32 0x2B8CBCCC#32) ix0)]; rfl

/-- The combined logarithm of one class. -/
theorem qc_apply (b : Fin 4096) (k : Fin 10) : val_main_v47 x0 x1 x2 x3 x4 x5 (ix2 b k) = ∑ r, val_main_v25 x0 x1 x3 x4 x5 (ix2 b r) * lnComm (fun j => x2 (ix2 r j)) k := by
  pointwise [val_main_v47]
  simp only [lnComm_apply]

/-- The combined logarithm of the whole frame. -/
theorem qo_apply (b : Fin 4096) : val_main_v48 x0 x1 x2 x3 x4 x5 (ix1 b) = ∑ r, val_main_v25 x0 x1 x3 x4 x5 (ix2 b r) * lnOm (fun j => x2 (ix2 r j)) := by
  pointwise [val_main_v48]
  simp only [lnOm_apply]

/-- The belief before it is rescaled. -/
theorem raw_apply (b : Fin 4096) (k : Fin 10) : val_main_v73 x0 x1 x2 x3 x4 x5 (ix2 b k)
    = raw (fun k => val_main_v47 x0 x1 x2 x3 x4 x5 (ix2 b k)) (val_main_v48 x0 x1 x2 x3 x4 x5 (ix1 b)) k := by
  pointwise [val_main_v73, val_main_v72, val_main_v71, val_main_v70, val_main_cst_13, val_main_v69, val_main_v68, val_main_v67, val_main_v66, val_main_v65, val_main_v64, val_main_v63, val_main_v62, val_main_v61, val_main_call6_v1, val_main_call6_v0, val_main_cst_12, val_main_v60, val_main_v59, val_main_v58, val_main_cst_11, val_main_v57, val_main_cst_10, val_main_v56, val_main_v55, val_main_v54, val_main_v53, val_main_v52, val_main_v51, val_main_v50, val_main_v49, val_main_cst_9]
  rw [max_comm (id (constant (F := Ideal) S_ .f32 0x2B8CBCCC#32) ix0)]; rfl

/-- The reference's result at an index. -/
theorem result_apply (b : Fin 4096) (k : Fin 10) : val_main_v78 x0 x1 x2 x3 x4 x5 (ix2 b k)
    = answer (fun r => val_main_v25 x0 x1 x3 x4 x5 (ix2 b r)) (fun r j => x2 (ix2 r j)) k := by
  pointwise [val_main_v78, val_main_v77, val_main_v76, val_main_call7_v1, val_main_call7_v0, val_main_cst_15, val_main_v75, val_main_v74, val_main_cst_14]
  simp only [raw_apply, qc_apply, qo_apply]
  rw [max_comm (id (constant (F := Ideal) S_ .f32 0x2B8CBCCC#32) ix0)]; rfl

end Cert.ReferenceIdeal.Finish

end
-- ==== Proof.RefIdx.lean ====
/-
  The reference's two indexed reads: the features each literal names, and the rules each literal belongs to.
-/
module

public import proofs.«01_k».proof.Proof.Gen.ReferenceIdeal.Read
public import Idealize.ShloMosaic.Lib.Pointwise
public import proofs.«01_k».proof.Proof.Literal
public import Idealize.ShloMosaic.Lib.Routing.OpsOrder
public import Idealize.ShloMosaic.Lib.Routing.OpsPair

@[expose] public section

set_option maxRecDepth 16384

noncomputable section

namespace Cert.ReferenceIdeal.Idx

open Cert.ReferenceIdeal Cert.ReferenceIdeal.Gen Cert.ReferenceIdeal.Read
open Idealize.ShloMosaic Idealize.ShloMosaic.TcCoe
open Idealize.ShloMosaic.Pointwise Cert.Literal

/-- The window of literal `l` and row `b` starts, along the rules, at the rule the index names, -/
theorem start0 (idx : IVec S8192x1 32) (l : Fin 8192) (b : Fin 4096) :
    scatter_S2048x4096_S8192x1_S8192x4096_1_0_0_1.start (ix2 l b) idx 0 = (idx (ix2 l (0 : Fin 1))).toInt := by
  unfold ScatterDims.start
  rw [dif_pos (by decide)]
  congr 2
  funext a
  fin_cases a <;> rfl
/-- and along the rows at zero. -/
theorem start1 (idx : IVec S8192x1 32) (l : Fin 8192) (b : Fin 4096) :
    scatter_S2048x4096_S8192x1_S8192x4096_1_0_0_1.start (ix2 l b) idx 1 = 0 := by
  unfold ScatterDims.start
  rw [dif_neg (by decide)]
/-- Within its window an update has no offset along the rules, -/
theorem win0 (l : Fin 8192) (b : Fin 4096) :
    scatter_S2048x4096_S8192x1_S8192x4096_1_0_0_1.window (ix2 l b) 0 = 0 := by
  unfold ScatterDims.window
  rw [dif_neg (by decide)]
/-- and along the rows its own row. -/
theorem win1 (l : Fin 8192) (b : Fin 4096) :
    scatter_S2048x4096_S8192x1_S8192x4096_1_0_0_1.window (ix2 l b) 1 = b.val := by
  unfold ScatterDims.window
  rw [dif_pos (by decide)]
  rfl

/-- Update `(l, b)` of the segment minimum lands in rule `r` of row `b` when literal `l` names rule `r`. -/
theorem lands (idx : IVec S8192x1 32) (l : Fin 8192) (b b' : Fin 4096) (r : Fin 2048) :
    scatter_S2048x4096_S8192x1_S8192x4096_1_0_0_1.resultIdx? (ix2 l b) idx = some (ix2 r b') ↔ (idx (ix2 l (0 : Fin 1))).toInt = r.val ∧ b = b' := by
  rw [Idealize.ShloMosaic.Routing.resultIdx?_eq_some]
  constructor
  · intro h
    have h0 := h 0
    have h1 := h 1
    rw [start0, win0] at h0
    rw [start1, win1] at h1
    refine ⟨by simpa using h0, Fin.ext ?_⟩
    have : ((b.val : Int)) = (b'.val : Int) := by simpa using h1
    exact Int.ofNat.inj this
  · rintro ⟨h, rfl⟩
    refine Fin.forall_fin_two.2 ⟨?_, ?_⟩
    · rw [start0, win0]; simpa using h
    · rw [start1, win1]; simp

/-- The element the reference's gather reads: row `b`, the feature literal `l` names. -/
theorem gather_idx (idx : IVec S8192x1 32) (b : Fin 4096) (l : Fin 8192) :
    gather_S4096x128_S8192x1_S4096x8192_0_1_n_n_1_1_40961.operandIdx (ix2 b l) idx = ix2 b (feat (idx (ix2 l (0 : Fin 1)))) := by
  refine funext (Fin.forall_fin_two.2 ⟨?_, ?_⟩)
  · apply Fin.ext
    simp only [GatherDims.operandIdx]
    rw [GatherDims.batchCoord_eq_zero _ _ _ (by decide)]
    unfold GatherDims.start
    rw [dif_neg (by decide)]
    unfold GatherDims.offCoord
    rw [dif_pos (by decide)]
    show 0 + 0 + b.val = b.val
    omega
  · apply Fin.ext
    simp only [GatherDims.operandIdx]
    rw [GatherDims.batchCoord_eq_zero _ _ _ (by decide), GatherDims.offCoord_eq_zero _ _ _ (by decide)]
    unfold GatherDims.start
    rw [dif_pos (by decide)]
    show min (idx _).toInt.toNat 127 = min (idx _).toInt.toNat 127
    congr 4
    funext a
    fin_cases a <;> rfl

variable (x0 : Vec Ideal S4096x128 .f32) (x1 : Vec Ideal S8192 .f32) (x3 x4 x5 : Vec Ideal S8192 .i32)

/-- A bit is the bit of the proposition that it is set. -/
theorem bit_iff (p : Prop) [Decidable p] : BitVec.ofBool (decide p) = 1#1 ↔ p := by
  by_cases h : p <;> simp [h]

/-- An index in range is what the reference looks up, unwrapped. -/
theorem idx_apply (l : Fin 8192) (z : Fin 1) (h : IntOp.cmpi .sge (x3 (ix1 l)) 0#32 = 1#1) : val_main_call0_v5 (F := Ideal) x3 (ix2 l z) = x3 (ix1 l) := by
  pointwise [val_main_call0_v5, val_main_call0_v4, val_main_call0_v3, val_main_call0_v2, val_main_call0_c_0, val_main_call0_v1, val_main_call0_v0, val_main_call0_c]
  have : IntOp.cmpi .slt (x3 (ix1 l)) 0#32 = 0#1 := by
    generalize x3 (ix1 l) = w at h
    simp only [IntOp.cmpi, BitVec.sle, BitVec.slt] at h ⊢
    have e : (0#32 : BitVec 32).toInt ≤ w.toInt := (bit_iff _).1 h
    rw [decide_eq_false (not_lt.2 e)]; rfl
  rw [this]; rfl

/-- The reference's bit for a literal and a row is set when the literal holds of the row. -/
theorem bit_apply (b : Fin 4096) (l : Fin 8192) (h : IntOp.cmpi .sge (x3 (ix1 l)) 0#32 = 1#1) (h' : IntOp.cmpi .sle (x3 (ix1 l)) 127#32 = 1#1) :
    val_main_v17 x0 x1 x3 x4 (ix2 b l) = 1#1 ↔ holds (x4 (ix1 l)) (x0 (ix2 b (feat (x3 (ix1 l))))) (x1 (ix1 l)) := by
  pointwise [val_main_v17, val_main_call2_v0, val_main_v16, val_main_call1_v0, val_main_v15, val_main_v14, val_main_c_0, val_main_v13, val_main_v12, val_main_c, val_main_v11, val_main_v10, val_main_v9, val_main_v8, val_main_v7, val_main_v6, val_main_cst, val_main_v5, val_main_v4, val_main_v3, val_main_v2, val_main_v1, val_main_v0, val_main_call0_v15, val_main_call0_cst, val_main_call0_v14, val_main_call0_v13, val_main_call0_v12, val_main_call0_c_3, val_main_call0_v11, val_main_call0_v10, val_main_call0_v9, val_main_call0_v8, val_main_call0_c_1, val_main_call0_v7, val_main_call0_v6, val_main_call0_c_2]
  simp only [fun z => idx_apply x3 l z h, h, h']
  have hf : (Finset.univ : Finset (Fin 1)).fold IntOp.andi 1#1 (fun _ => IntOp.andi 1#1 1#1) = 1#1 := by decide
  have hg : Host.gather gather_S4096x128_S8192x1_S4096x8192_0_1_n_n_1_1_40961 x0 (val_main_call0_v5 (F := Ideal) x3) (ix2 b l) = x0 (ix2 b (feat (x3 (ix1 l)))) := by
    show x0 (gather_S4096x128_S8192x1_S4096x8192_0_1_n_n_1_1_40961.operandIdx (ix2 b l) _) = _
    rw [gather_idx, idx_apply x3 l 0 h]
  rw [hf, hg]
  unfold holds
  by_cases h0 : x4 (ix1 l) = 0#32
  · rw [if_pos h0, h0]; exact bit_iff _
  · have e0 : IntOp.cmpi .eq (x4 (ix1 l)) 0#32 = 0#1 := congrArg BitVec.ofBool (beq_eq_false_iff_ne.2 h0)
    rw [if_neg h0, e0]
    by_cases h1 : x4 (ix1 l) = 1#32
    · rw [if_pos h1, h1]; exact bit_iff _
    · have e1 : IntOp.cmpi .eq (x4 (ix1 l)) 1#32 = 0#1 := congrArg BitVec.ofBool (beq_eq_false_iff_ne.2 h1)
      rw [if_neg h1, e1]; exact bit_iff _

/-- The values a segment minimum of bits takes: zero, one, and the start. -/
def Small (w : BitVec 32) : Prop := w = 0#32 ∨ w = 1#32 ∨ w = 2147483647#32

/-- A running minimum of bits is zero when one of them is. -/
theorem fold_min {ι : Type} (L : List ι) (P : ι → Prop) [DecidablePred P] (u : ι → BitVec 32) (hu : ∀ n, Small (u n)) (a : BitVec 32) (ha : Small a) :
    Small (L.foldl (fun a n => if P n then IntOp.minsi a (u n) else a) a)
      ∧ (L.foldl (fun a n => if P n then IntOp.minsi a (u n) else a) a = 0#32 ↔ a = 0#32 ∨ ∃ n ∈ L, P n ∧ u n = 0#32) := by
  induction L generalizing a with
  | nil => exact ⟨ha, by simp⟩
  | cons n L ih =>
    rw [List.foldl_cons]
    have hs : Small (if P n then IntOp.minsi a (u n) else a) := by
      split
      · rcases ha with rfl | rfl | rfl <;> rcases hu n with h | h | h <;> rw [h] <;> unfold Small <;> decide
      · exact ha
    have hz : (if P n then IntOp.minsi a (u n) else a) = 0#32 ↔ a = 0#32 ∨ (P n ∧ u n = 0#32) := by
      by_cases hp : P n
      · rw [if_pos hp, and_iff_right hp]
        rcases ha with rfl | rfl | rfl <;> rcases hu n with h | h | h <;> rw [h] <;> decide
      · rw [if_neg hp]; simp [hp]
    refine ⟨(ih _ hs).1, (ih _ hs).2.trans ?_⟩
    rw [hz]
    constructor
    · rintro ((h | h) | ⟨k, hk, h⟩)
      · exact .inl h
      · exact .inr ⟨n, List.mem_cons_self .., h⟩
      · exact .inr ⟨k, List.mem_cons_of_mem _ hk, h⟩
    · rintro (h | ⟨k, hk, h⟩)
      · exact .inl (.inl h)
      · rcases List.mem_cons.1 hk with rfl | hk
        · exact .inl (.inr h)
        · exact .inr ⟨k, hk, h⟩

/-- The clipped minimum as a number. -/
theorem clip_eq (w : BitVec 32) (h : Small w) :
    (FloatOps.sitofp .f32 (IntOp.minsi 1#32 (IntOp.maxsi 0#32 w)) : Ideal .f32) = if w = 0#32 then (0 : EReal) else 1 := by
  have key : ∀ v : BitVec 32, (FloatOps.sitofp .f32 v : Ideal .f32) = (((v.toInt : ℝ)) : EReal) := fun _ => rfl
  rw [key]
  rcases h with rfl | rfl | rfl
  · rw [if_pos rfl, show (IntOp.minsi 1#32 (IntOp.maxsi 0#32 0#32)).toInt = 0 by decide]; simp
  · rw [if_neg (by decide), show (IntOp.minsi 1#32 (IntOp.maxsi 0#32 1#32)).toInt = 1 by decide]; simp
  · rw [if_neg (by decide), show (IntOp.minsi 1#32 (IntOp.maxsi 0#32 2147483647#32)).toInt = 1 by decide]; simp

/-- One bit, widened. -/
theorem wide_bit : ∀ v : BitVec 1, (BitVec.setWidth 32 v = 0#32 ∨ BitVec.setWidth 32 v = 1#32) ∧ (BitVec.setWidth 32 v = 0#32 ↔ v ≠ 1#1) := by decide

/-- What the segment minimum takes in: a literal's bit for a row. -/
theorem upd_apply (b : Fin 4096) (l : Fin 8192) : val_main_v19 x0 x1 x3 x4 (ix2 l b) = BitVec.setWidth 32 (val_main_v17 x0 x1 x3 x4 (ix2 b l)) := by
  pointwise [val_main_v19, val_main_v18]

open Classical in
/-- A rule fires for a row when every literal that names it holds of the row. -/
theorem fired_apply (h : ∀ l, IntOp.cmpi .sge (x3 (ix1 l)) 0#32 = 1#1) (h' : ∀ l, IntOp.cmpi .sle (x3 (ix1 l)) 127#32 = 1#1) (b : Fin 4096) (r : Fin 2048) :
    val_main_v25 x0 x1 x3 x4 x5 (ix2 b r)
      = if ∀ l : Fin 8192, (x5 (ix1 l)).toInt = r.val → holds (x4 (ix1 l)) (x0 (ix2 b (feat (x3 (ix1 l))))) (x1 (ix1 l)) then (1 : EReal) else 0 := by
  pointwise [val_main_v25, val_main_v24, val_main_v23, val_main_call3_v4, val_main_call3_v3, val_main_c_3, val_main_call3_v2, val_main_call3_v1, val_main_call3_v0, val_main_c_2, val_main_v22, val_main_v20, val_main_c_1]
  have hu : ∀ k : S8192x4096.Idx, Small (val_main_v19 x0 x1 x3 x4 k) := fun k => by
    obtain ⟨l, b', rfl⟩ : ∃ (l : Fin 8192) (b' : Fin 4096), k = ix2 l b' := ⟨k 0, k 1, eq_ix2 k⟩
    rw [upd_apply]
    rcases (wide_bit (val_main_v17 x0 x1 x3 x4 (ix2 b' l))).1 with e | e <;> rw [e]
    · exact .inl rfl
    · exact .inr (.inl rfl)
  have key := fold_min (List.finRange S8192x4096.numel)
    (fun n => scatter_S2048x4096_S8192x1_S8192x4096_1_0_0_1.resultIdx? (S8192x4096.rowMajor.symm n) (val_main_v21 (F := Ideal) x5) = some (ix2 r b))
    (fun n => val_main_v19 x0 x1 x3 x4 (S8192x4096.rowMajor.symm n)) (fun n => hu _) 2147483647#32 (.inr (.inr rfl))
  have hs := Routing.scatterIn_at (List.finRange S8192x4096.numel) scatter_S2048x4096_S8192x1_S8192x4096_1_0_0_1 IntOp.minsi
    (broadcastInDim S2048x4096 ![] bcast_S_S2048x4096 (constantI S_ 32 2147483647#32)) (val_main_v21 (F := Ideal) x5) (val_main_v19 x0 x1 x3 x4) (ix2 r b)
  have h21 : ∀ l : Fin 8192, val_main_v21 (F := Ideal) x5 (ix2 l (0 : Fin 1)) = x5 (ix1 l) := fun l => by pointwise [val_main_v21]
  generalize hw : Host.scatter scatter_S2048x4096_S8192x1_S8192x4096_1_0_0_1 IntOp.minsi
            (broadcastInDim S2048x4096 ![] bcast_S_S2048x4096 (constantI S_ 32 2147483647#32)) (val_main_v21 x5)
            (val_main_v19 x0 x1 x3 x4) (ix2 r b) = w
  have hw' : w = _ := hw.symm.trans hs
  rw [show broadcastInDim S2048x4096 ![] bcast_S_S2048x4096 (constantI S_ 32 2147483647#32) (ix2 r b) = 2147483647#32 from rfl] at hw'
  rw [← hw'] at key
  refine (clip_eq w key.1).trans ?_
  have hz : w = 0#32 ↔ ¬ ∀ l : Fin 8192, (x5 (ix1 l)).toInt = r.val → holds (x4 (ix1 l)) (x0 (ix2 b (feat (x3 (ix1 l))))) (x1 (ix1 l)) := by
    rw [key.2, not_forall]
    constructor
    · rintro (e | ⟨n, _, hl, hn⟩)
      · exact absurd e (by decide)
      · generalize S8192x4096.rowMajor.symm n = k at hl hn
        obtain ⟨l, b', rfl⟩ : ∃ (l : Fin 8192) (b' : Fin 4096), k = ix2 l b' := ⟨k 0, k 1, eq_ix2 k⟩
        obtain ⟨e1, e2⟩ := (lands _ _ _ _ _).1 hl
        rw [h21] at e1
        refine ⟨l, fun hh => ?_⟩
        rw [upd_apply] at hn
        exact (wide_bit _).2.1 hn ((bit_apply x0 x1 x3 x4 _ _ (h _) (h' _)).2 (by rw [e2]; exact hh e1))
    · rintro ⟨l, hl⟩
      rw [Classical.not_imp] at hl
      refine .inr ⟨S8192x4096.rowMajor (ix2 l b), List.mem_finRange _, ?_, ?_⟩
      · rw [Equiv.symm_apply_apply]; exact (lands _ _ _ _ _).2 ⟨by rw [h21]; exact hl.1, rfl⟩
      · show val_main_v19 x0 x1 x3 x4 (S8192x4096.rowMajor.symm _) = _
        rw [Equiv.symm_apply_apply, upd_apply]
        exact (wide_bit _).2.2 fun hb => hl.2 ((bit_apply x0 x1 x3 x4 _ _ (h _) (h' _)).1 hb)
  by_cases c : w = 0#32
  · rw [if_pos c, if_neg (hz.1 c)]
  · rw [if_neg c, if_pos (not_not.1 fun q => c (hz.2 q))]

end Cert.ReferenceIdeal.Idx

end
-- ==== Proof.Equation.lean ====
/-
  The kernel's result and the reference's are the same, on the arguments the claim asks for.
-/
module

public import proofs.«01_k».proof.Defs
public import proofs.«01_k».proof.Proof.InvI
public import proofs.«01_k».proof.Proof.RefFin
public import proofs.«01_k».proof.Proof.RefIdx
public import proofs.«01_k».proof.Proof.Gen.Pre_inputs_drawn
public import proofs.«01_k».proof.Proof.Gen.ReferenceIdeal.Run

@[expose] public section

set_option maxRecDepth 16384

noncomputable section

namespace Cert.Equation

open Idealize.ShloMosaic Idealize.ShloMosaic.TcCoe Idealize.SL.Sem
open Idealize.ShloMosaic.Pointwise Cert.Literal Cert.Belief
open Cert.KernelIdeal.Host Cert.KernelIdeal.Counts

/-- The pattern of `inf`. -/
theorem inf_eq : Ideal.ofBits .f32 0x7F800000#32 = ⊤ := by simp [Ideal.ofBits, Ideal.ieee]

/-- A test that comes out one is true. -/
theorem of_bit {p : Prop} [Decidable p] (h : BitVec.ofBool (decide p) = 1#1) : p := by by_contra hp; simp [hp] at h

/-- Two bits whose conjunction is one are both one. -/
theorem both_bits : ∀ a b : BitVec 1, IntOp.andi a b = 1#1 → a = 1#1 ∧ b = 1#1 := by decide

/-- The precondition's first test, at an entry of the rows. -/
theorem pre_rows (x0 : Vec Ideal Pre_inputs_drawn.S4096x128 .f32) (x1 x2 x3 x4 x5) (b : Fin 4096) (g : Fin 128) :
    (Pre_inputs_drawn.fn (F := Ideal) x0 x1 x2 x3 x4 x5).1 (ix2 b g) = BitVec.ofBool (decide (max (x0 (ix2 b g) : EReal) (-x0 (ix2 b g)) < ⊤)) := by
  pointwise [Pre_inputs_drawn.fn]
  rw [inf_eq]; rfl

/-- The precondition's second test, at a literal. -/
theorem pre_feat (x0 : Vec Ideal Pre_inputs_drawn.S4096x128 .f32) (x1 x2 x3 x4 x5) (l : Fin 8192) :
    (Pre_inputs_drawn.fn (F := Ideal) x0 x1 x2 x3 x4 x5).2.1 (ix1 l) = IntOp.andi (IntOp.cmpi .sge (x3 (ix1 l)) 0#32) (IntOp.cmpi .sle (x3 (ix1 l)) 127#32) := by
  pointwise [Pre_inputs_drawn.fn]

/-- The precondition's third test, at a literal and the next. -/
theorem pre_order (x0 : Vec Ideal Pre_inputs_drawn.S4096x128 .f32) (x1 x2 x3 x4 x5) (l : ℕ) (h : l + 1 < 8192) :
    (Pre_inputs_drawn.fn (F := Ideal) x0 x1 x2 x3 x4 x5).2.2 (ix1 (⟨l, by omega⟩ : Fin 8191))
      = BitVec.ofBool (decide ((x5 (ix1 ⟨l, by omega⟩)).toInt ≤ (x5 (ix1 ⟨l + 1, h⟩)).toInt)) := by
  pointwise [Pre_inputs_drawn.fn]
  simp only [Nat.add_comm 1 l]; rfl

/-- Words each no greater than the next come in order. -/
theorem in_order (x : Fin 8192 → BitVec 32) (h : ∀ (l : ℕ) (hl : l + 1 < 8192), (x ⟨l, by omega⟩).toInt ≤ (x ⟨l + 1, hl⟩).toInt) :
    ∀ l l' : Fin 8192, l ≤ l' → (x l).toInt ≤ (x l').toInt := by
  intro l
  have key : ∀ (n : ℕ) (hn : n < 8192), l.val ≤ n → (x l).toInt ≤ (x ⟨n, hn⟩).toInt := by
    intro n
    induction n with
    | zero =>
      intro hn hl
      rw [show l = ⟨0, hn⟩ from Fin.ext (by show l.val = 0; omega)]
    | succ n ih =>
      intro hn hl
      by_cases e : l.val = n + 1
      · rw [show l = ⟨n + 1, hn⟩ from Fin.ext e]
      · exact (ih (by omega) (by omega)).trans (h n hn)
  exact fun l' hl => key l'.val l'.isLt hl

/-- The precondition says of the kernel's arguments what its proof needs. -/
theorem drawn (m : (ℓ : Loc KernelIdeal.nD KernelIdeal.τ KernelIdeal.sig) → Buf (Elt Ideal) ℓ)
    (h : Pre_KernelIdeal_inputs_drawn (hPre_inputs_drawn := Pre_inputs_drawn.Gen.facts) m) (c : Dev KernelIdeal.nD) : Drawn m c := by
  obtain ⟨h1, h2, h3⟩ := h c
  have hr : ∀ (b : Fin 4096) (g : Fin 128), max (a0 m c (ix2 b g) : EReal) (-a0 m c (ix2 b g)) < ⊤ := fun b g =>
    of_bit ((pre_rows (a0 m c) (a1 m c) (a2 m c) (a3 m c) (a4 m c) (a5 m c) b g).symm.trans (congrFun h1 (ix2 b g)))
  have hf : ∀ l : Fin 8192, _ ∧ _ := fun l =>
    both_bits _ _ ((pre_feat (a0 m c) (a1 m c) (a2 m c) (a3 m c) (a4 m c) (a5 m c) l).symm.trans (congrFun h2 (ix1 l)))
  refine ⟨fun b g e => ?_, fun b g e => ?_, fun l => (hf l).1, fun l => (hf l).2, ?_⟩
  · have := hr b g; rw [e] at this; simp at this
  · have := hr b g; rw [e] at this; simp at this
  · exact in_order (fun l => a5 m c (ix1 l)) fun l hl =>
      of_bit ((pre_order (a0 m c) (a1 m c) (a2 m c) (a3 m c) (a4 m c) (a5 m c) l hl).symm.trans (congrFun h3 (ix1 (⟨l, by omega⟩ : Fin 8191))))

/-- The reference's result on the arguments of the kernel. -/
theorem same (m : (ℓ : Loc KernelIdeal.nD KernelIdeal.τ KernelIdeal.sig) → Buf (Elt Ideal) ℓ) (c : Dev KernelIdeal.nD) (h : Drawn m c) :
    ReferenceIdeal.Read.val_main_v78 (F := Ideal) (a0 m c) (a1 m c) (a2 m c) (a3 m c) (a4 m c) (a5 m c)
      = extractStridedSlice KernelIdeal.S4096x10 ![0, 0] (KernelIdeal.Frame.arrEnd m c) KernelIdeal.Gen.facts.slices_S4096x16_S4096x10_0_0 := by
  classical
  funext i
  obtain ⟨b, k, rfl⟩ := at_pair i
  refine (ReferenceIdeal.Finish.result_apply _ _ _ _ _ _ b k).trans (Eq.trans ?_ (result_apply m c h b k).symm)
  refine congrArg (fun f => answer f (fun r j => a2 m c (ix2 r j)) k) (funext fun r => ?_)
  refine (ReferenceIdeal.Idx.fired_apply (a0 m c) (a1 m c) (a3 m c) (a4 m c) (a5 m c) h.low h.high b r).trans ?_
  exact if_congr Iff.rfl rfl rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.RunI
public import proofs.«01_k».proof.Proof.RunK
public import proofs.«01_k».proof.Proof.Equation
public import proofs.«01_k».proof.Proof.Gen.Pre_inputs_drawn
public import Idealize.ShloMosaic.Adequacy
public import Idealize.ShloMosaic.Init

@[expose] public section

noncomputable section

namespace Cert.Proof

open Idealize.ShloMosaic Idealize.SL.Sem Cert.Kernel

/-- Six facts, one for each argument, from one fact about every argument. -/
theorem six {α : Type} {P : α → Prop} {a b c d e f : α} (h : ∀ x ∈ [a, b, c, d, e, f], P x) : P a ∧ P b ∧ P c ∧ P d ∧ P e ∧ P f :=
  ⟨h _ (by simp), h _ (by simp), h _ (by simp), h _ (by simp), h _ (by simp), h _ (by simp)⟩

/-- A function of six equal arguments. -/
theorem congr_six {A B C D E F G : Type} (f : A → B → C → D → E → F → G) {a a' : A} {b b' : B} {c c' : C} {d d' : D} {e e' : E} {g g' : F}
    (h0 : a = a') (h1 : b = b') (h2 : c = c') (h3 : d = d') (h4 : e = e') (h5 : g = g') : f a b c d e g = f a' b' c' d' e' g' := by
  subst h0 h1 h2 h3 h4 h5; rfl

/-- The printed kernel runs, ends with its arguments unchanged and with every semaphore at zero. -/
theorem frame_kernel : quiescent_Kernel (hKernel := Cert.Kernel.Gen.facts) := fun m g _ =>
  (θ_run _ _ _).mono (fun _ h => ⟨fun c => six (h.1 c).2, h.2⟩) (Cert.Kernel.Frame.run m g)

/-- The idealized kernel runs, ends with its arguments unchanged and with every semaphore at zero. -/
theorem frame_ideal : quiescent_KernelIdeal (hKernelIdeal := Cert.KernelIdeal.Gen.facts) := fun m g _ =>
  (θ_run _ _ _).mono (fun _ h => ⟨fun c => six (h.1 c).2, h.2⟩) (Cert.KernelIdeal.Frame.run m g)

/-- The reference runs, ends with its arguments unchanged and with every semaphore at zero. -/
theorem frame_reference : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run m g)

/-- On rows of finite numbers, features in range and literals in the order of their rules, the idealized kernel and the
    reference end with the same array, their arguments unchanged. -/
theorem algebraic : algebraic_KernelIdeal_ReferenceIdeal_pre_inputs_drawn (hKernelIdeal := Cert.KernelIdeal.Gen.facts)
    (hReferenceIdeal := Cert.ReferenceIdeal.Gen.facts) (hPre_inputs_drawn := Cert.Pre_inputs_drawn.Gen.facts) := by
  intro m g m' g' hpre hargs
  refine ⟨_, (θ_run _ _ _).mono (fun _ h c => ⟨(h.1 c).1, six (h.1 c).2⟩) (Cert.KernelIdeal.Frame.run m g),
    (θ_run _ _ _).mono (fun r h c => ⟨(h c).1.trans ?_, (h c).2⟩) (Cert.ReferenceIdeal.Value.run m' g')⟩
  refine Eq.trans ?_ (Cert.Equation.same m c (Cert.Equation.drawn m hpre c))
  obtain ⟨e0, e1, e2, e3, e4, e5⟩ := hargs c
  exact (Cert.ReferenceIdeal.Read.val_main_v78_eq _).trans (congr_six (Cert.ReferenceIdeal.Read.val_main_v78 (F := Ideal)) e0 e1 e2 e3 e4 e5)

/-- The claims. -/
theorem claim : Cert.Claim := ⟨Cert.Kernel.Gen.facts, Cert.KernelIdeal.Gen.facts, Cert.ReferenceIdeal.Gen.facts, Cert.Pre_inputs_drawn.Gen.facts,
  frame_kernel, frame_ideal, fun m g _ => frame_ideal m g trivial, frame_reference, fun m g _ => frame_reference m g trivial,
  IdealRules.named_const.statement Cert.KernelIdeal.κ "mask" .f32 0xF149F2CA#32 ⊥ rfl, algebraic⟩

end Cert.Proof

end
